-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v164) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x1024x4096 : Shape := ⟨3, ![1, 1024, 4096]⟩
abbrev S4096x14336 : Shape := ⟨2, ![4096, 14336]⟩
abbrev S64x28672 : Shape := ⟨2, ![64, 28672]⟩
abbrev S4096x16 : Shape := ⟨2, ![4096, 16]⟩
abbrev S16x28672 : Shape := ⟨2, ![16, 28672]⟩
abbrev S16 : Shape := ⟨1, ![16]⟩
abbrev S16x1 : Shape := ⟨2, ![16, 1]⟩
abbrev S16x128 : Shape := ⟨2, ![16, 128]⟩
abbrev S1024x4096 : Shape := ⟨2, ![1024, 4096]⟩
abbrev S1024x28672 : Shape := ⟨2, ![1024, 28672]⟩
abbrev S4096x256 : Shape := ⟨2, ![4096, 256]⟩
abbrev S64x512 : Shape := ⟨2, ![64, 512]⟩
abbrev S16x512 : Shape := ⟨2, ![16, 512]⟩
abbrev S1024x512 : Shape := ⟨2, ![1024, 512]⟩
abbrev S4096x512 : Shape := ⟨2, ![4096, 512]⟩
abbrev S1024x16 : Shape := ⟨2, ![1024, 16]⟩
abbrev S8x128 : Shape := ⟨2, ![8, 128]⟩
abbrev S32x128 : Shape := ⟨2, ![32, 128]⟩
abbrev S1x512 : Shape := ⟨2, ![1, 512]⟩
abbrev S1x128 : Shape := ⟨2, ![1, 128]⟩
abbrev S8x128x1 : Shape := ⟨3, ![8, 128, 1]⟩
abbrev S32x128x1 : Shape := ⟨3, ![32, 128, 1]⟩
abbrev S16x128x1 : Shape := ⟨3, ![16, 128, 1]⟩

abbrev nBuf : Space → Nat
  | .hbm => 11
  | .vmem => 13
  | .smem => 0
  | _ => 0

abbrev bufTy : (tb : Table) → Fin (tcTables nBuf tb) → BufTy
  | .hbm, ⟨0, _⟩ => ⟨S1x1024x4096, .bf16⟩
  | .hbm, ⟨1, _⟩ => ⟨S4096x14336, .i8⟩
  | .hbm, ⟨2, _⟩ => ⟨S64x28672, .f32⟩
  | .hbm, ⟨3, _⟩ => ⟨S4096x16, .bf16⟩
  | .hbm, ⟨4, _⟩ => ⟨S16x28672, .bf16⟩
  | .hbm, ⟨5, _⟩ => ⟨S16, .f32⟩
  | .hbm, ⟨6, _⟩ => ⟨S16, .bf16⟩
  | .hbm, ⟨7, _⟩ => ⟨S16x1, .bf16⟩
  | .hbm, ⟨8, _⟩ => ⟨S16x128, .bf16⟩
  | .hbm, ⟨9, _⟩ => ⟨S1024x4096, .bf16⟩
  | .hbm, ⟨10, _⟩ => ⟨S1024x28672, .bf16⟩
  | .local _ .vmem, ⟨0, _⟩ => ⟨S1024x4096, .bf16⟩
  | .local _ .vmem, ⟨1, _⟩ => ⟨S4096x256, .i8⟩
  | .local _ .vmem, ⟨2, _⟩ => ⟨S4096x256, .i8⟩
  | .local _ .vmem, ⟨3, _⟩ => ⟨S64x512, .f32⟩
  | .local _ .vmem, ⟨4, _⟩ => ⟨S64x512, .f32⟩
  | .local _ .vmem, ⟨5, _⟩ => ⟨S4096x16, .bf16⟩
  | .local _ .vmem, ⟨6, _⟩ => ⟨S16x512, .bf16⟩
  | .local _ .vmem, ⟨7, _⟩ => ⟨S16x512, .bf16⟩
  | .local _ .vmem, ⟨8, _⟩ => ⟨S16x128, .bf16⟩
  | .local _ .vmem, ⟨9, _⟩ => ⟨S1024x512, .bf16⟩
  | .local _ .vmem, ⟨10, _⟩ => ⟨S1024x512, .bf16⟩
  | .local _ .vmem, ⟨11, _⟩ => ⟨S4096x512, .bf16⟩
  | .local _ .vmem, ⟨12, _⟩ => ⟨S1024x16, .bf16⟩
  | _, _ => ⟨S1x1024x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![56], ![false]⟩

@[reducible] def k0_t1_loop : Scf.Loop 32 :=
  let c0_i32_30 : BitVec 32 := 0#32
  let c64_i32_31 : BitVec 32 := 64#32
  let v89 : BitVec 32 := Scalar.addi c0_i32_30 c64_i32_31
  let c1_i32_32 : BitVec 32 := 1#32
  ⟨c0_i32_30, v89, c1_i32_32⟩
def k0_mult1 (k0_t1 : Fin k0_t1_loop.trips) : BitVec 32 :=
  let c0_i32_30 : BitVec 32 := 0#32
  let c1_i32_32 : BitVec 32 := 1#32
  let arg10 : BitVec 32 := Scf.iv c0_i32_30 c1_i32_32 k0_t1
  let c64_i32_46 : BitVec 32 := 64#32
  let v102 : BitVec 32 := Scalar.muli arg10 c64_i32_46
  v102
def k0_off1 (k0_t1 : Fin k0_t1_loop.trips) : Fin 2 → Nat :=
  let c0_i32_30 : BitVec 32 := 0#32
  let c1_i32_32 : BitVec 32 := 1#32
  let arg10 : BitVec 32 := Scf.iv c0_i32_30 c1_i32_32 k0_t1
  let v104 : Index := Scalar.indexCast arg10
  let c0_47 : Index := 0#32
  ![v104.toNat, 0]
def k0_off2 (k0_t1 : Fin k0_t1_loop.trips) (c0_i32_48 : BitVec 32) : Fin 2 → Nat :=
  let c0_i32_30 : BitVec 32 := 0#32
  let c1_i32_32 : BitVec 32 := 1#32
  let arg10 : BitVec 32 := Scf.iv c0_i32_30 c1_i32_32 k0_t1
  let c64_i32_46 : BitVec 32 := 64#32
  let v102 : BitVec 32 := Scalar.muli arg10 c64_i32_46
  let v103 : BitVec 32 := v102
  let v111 : BitVec 32 := Scalar.addi v103 c0_i32_48
  let v112 : Index := Scalar.indexCast v111
  let c0_49 : Index := 0#32
  ![v112.toNat, 0]
def k0_off3 (k0_t1 : Fin k0_t1_loop.trips) (c0_i32_50 : BitVec 32) (c0_i32_51 : BitVec 32) : Fin 2 → Nat :=
  let c0_i32_30 : BitVec 32 := 0#32
  let c1_i32_32 : BitVec 32 := 1#32
  let arg10 : BitVec 32 := Scf.iv c0_i32_30 c1_i32_32 k0_t1
  let c64_i32_46 : BitVec 32 := 64#32
  let v102 : BitVec 32 := Scalar.muli arg10 c64_i32_46
  let v103 : BitVec 32 := v102
  let v135 : BitVec 32 := Scalar.addi v103 c0_i32_50
  let v136 : BitVec 32 := Scalar.addi v135 c0_i32_51
  let v137 : Index := Scalar.indexCast v136
  let c0_52 : Index := 0#32
  ![v137.toNat, 0]
def k0_off4 (k0_t1 : Fin k0_t1_loop.trips) (c0_i32_71 : BitVec 32) (c0_i32_72 : BitVec 32) : Fin 2 → Nat :=
  let c0_i32_30 : BitVec 32 := 0#32
  let c1_i32_32 : BitVec 32 := 1#32
  let arg10 : BitVec 32 := Scf.iv c0_i32_30 c1_i32_32 k0_t1
  let c64_i32_46 : BitVec 32 := 64#32
  let v102 : BitVec 32 := Scalar.muli arg10 c64_i32_46
  let v103 : BitVec 32 := v102
  let v238 : BitVec 32 := Scalar.addi v103 c0_i32_71
  let v239 : BitVec 32 := Scalar.addi v238 c0_i32_72
  let v240 : Index := Scalar.indexCast v239
  let c128 : Index := 128#32
  ![v240.toNat, 128]
def k0_off5 (k0_t1 : Fin k0_t1_loop.trips) (c0_i32_88 : BitVec 32) : Fin 2 → Nat :=
  let c0_i32_30 : BitVec 32 := 0#32
  let c1_i32_32 : BitVec 32 := 1#32
  let arg10 : BitVec 32 := Scf.iv c0_i32_30 c1_i32_32 k0_t1
  let c64_i32_46 : BitVec 32 := 64#32
  let v102 : BitVec 32 := Scalar.muli arg10 c64_i32_46
  let v103 : BitVec 32 := v102
  let v317 : BitVec 32 := Scalar.addi v103 c0_i32_88
  let v318 : Index := Scalar.indexCast v317
  let c128_89 : Index := 128#32
  ![v318.toNat, 128]
def k0_off6 (k0_t1 : Fin k0_t1_loop.trips) (c0_i32_92 : BitVec 32) (c0_i32_93 : BitVec 32) : Fin 2 → Nat :=
  let c0_i32_30 : BitVec 32 := 0#32
  let c1_i32_32 : BitVec 32 := 1#32
  let arg10 : BitVec 32 := Scf.iv c0_i32_30 c1_i32_32 k0_t1
  let c64_i32_46 : BitVec 32 := 64#32
  let v102 : BitVec 32 := Scalar.muli arg10 c64_i32_46
  let v103 : BitVec 32 := v102
  let v341 : BitVec 32 := Scalar.addi v103 c0_i32_92
  let v342 : BitVec 32 := Scalar.addi v341 c0_i32_93
  let v343 : Index := Scalar.indexCast v342
  let c256 : Index := 256#32
  ![v343.toNat, 256]
def k0_off7 (k0_t1 : Fin k0_t1_loop.trips) (c0_i32_113 : BitVec 32) (c0_i32_114 : BitVec 32) : Fin 2 → Nat :=
  let c0_i32_30 : BitVec 32 := 0#32
  let c1_i32_32 : BitVec 32 := 1#32
  let arg10 : BitVec 32 := Scf.iv c0_i32_30 c1_i32_32 k0_t1
  let c64_i32_46 : BitVec 32 := 64#32
  let v102 : BitVec 32 := Scalar.muli arg10 c64_i32_46
  let v103 : BitVec 32 := v102
  let v444 : BitVec 32 := Scalar.addi v103 c0_i32_113
  let v445 : BitVec 32 := Scalar.addi v444 c0_i32_114
  let v446 : Index := Scalar.indexCast v445
  let c384 : Index := 384#32
  ![v446.toNat, 384]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S1024x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S4096x256 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4096x16 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S16x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S16x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceIdeal.lean ====
abbrev S1x1024x4096 : Shape := ⟨3, ![1, 1024, 4096]⟩
abbrev S4096x14336 : Shape := ⟨2, ![4096, 14336]⟩
abbrev S64x28672 : Shape := ⟨2, ![64, 28672]⟩
abbrev S4096x16 : Shape := ⟨2, ![4096, 16]⟩
abbrev S16x28672 : Shape := ⟨2, ![16, 28672]⟩
abbrev S_ : Shape := ⟨0, ![]⟩
abbrev S64x14336 : Shape := ⟨2, ![64, 14336]⟩
abbrev S1x1 : Shape := ⟨2, ![1, 1]⟩
abbrev S64x64x14336 : Shape := ⟨3, ![64, 64, 14336]⟩
abbrev S64x1x14336 : Shape := ⟨3, ![64, 1, 14336]⟩
abbrev S1x1024x16 : Shape := ⟨3, ![1, 1024, 16]⟩
abbrev S16x14336 : Shape := ⟨2, ![16, 14336]⟩
abbrev S1x1024x14336 : Shape := ⟨3, ![1, 1024, 14336]⟩
abbrev S1x1024x14336x1 : Shape := ⟨4, ![1, 1024, 14336, 1]⟩
abbrev S1x1024x14336x2 : Shape := ⟨4, ![1, 1024, 14336, 2]⟩
abbrev S1024x28672 : Shape := ⟨2, ![1024, 28672]⟩

abbrev nBuf : Space → Nat
  | .hbm => 254
  | .vmem => 0
  | .smem => 0
  | _ => 0

abbrev hbmTy0_0 (i : Nat) : BufTy := match i % 128 with
  | 0 => ⟨S1x1024x4096, .bf16⟩
  | 1 => ⟨S4096x14336, .i8⟩
  | 2 => ⟨S64x28672, .f32⟩
  | 3 => ⟨S4096x16, .bf16⟩
  | 4 => ⟨S16x28672, .bf16⟩
  | 5 => ⟨S4096x14336, .i32⟩
  | 6 => ⟨S_, .i32⟩
  | 7 => ⟨S4096x14336, .i32⟩
  | 8 => ⟨S4096x14336, .i32⟩
  | 9 => ⟨S_, .i32⟩
  | 10 => ⟨S4096x14336, .i32⟩
  | 11 => ⟨S4096x14336, .i32⟩
  | 12 => ⟨S64x14336, .f32⟩
  | 13 => ⟨S_, .f32⟩
  | 14 => ⟨S1x1, .f32⟩
  | 15 => ⟨S1x1, .bf16⟩
  | 16 => ⟨S_, .f32⟩
  | 17 => ⟨S1x1, .f32⟩
  | 18 => ⟨S1x1, .bf16⟩
  | 19 => ⟨S_, .f32⟩
  | 20 => ⟨S1x1, .f32⟩
  | 21 => ⟨S1x1, .bf16⟩
  | 22 => ⟨S_, .f32⟩
  | 23 => ⟨S1x1, .f32⟩
  | 24 => ⟨S1x1, .bf16⟩
  | 25 => ⟨S_, .f32⟩
  | 26 => ⟨S1x1, .f32⟩
  | 27 => ⟨S1x1, .bf16⟩
  | 28 => ⟨S_, .f32⟩
  | 29 => ⟨S1x1, .f32⟩
  | 30 => ⟨S1x1, .bf16⟩
  | 31 => ⟨S_, .f32⟩
  | 32 => ⟨S1x1, .f32⟩
  | 33 => ⟨S1x1, .bf16⟩
  | 34 => ⟨S_, .f32⟩
  | 35 => ⟨S1x1, .f32⟩
  | 36 => ⟨S1x1, .bf16⟩
  | 37 => ⟨S_, .f32⟩
  | 38 => ⟨S1x1, .f32⟩
  | 39 => ⟨S1x1, .bf16⟩
  | 40 => ⟨S_, .f32⟩
  | 41 => ⟨S1x1, .f32⟩
  | 42 => ⟨S1x1, .bf16⟩
  | 43 => ⟨S_, .f32⟩
  | 44 => ⟨S1x1, .f32⟩
  | 45 => ⟨S1x1, .bf16⟩
  | 46 => ⟨S_, .f32⟩
  | 47 => ⟨S1x1, .f32⟩
  | 48 => ⟨S1x1, .bf16⟩
  | 49 => ⟨S_, .f32⟩
  | 50 => ⟨S1x1, .f32⟩
  | 51 => ⟨S1x1, .bf16⟩
  | 52 => ⟨S_, .f32⟩
  | 53 => ⟨S1x1, .f32⟩
  | 54 => ⟨S1x1, .bf16⟩
  | 55 => ⟨S_, .f32⟩
  | 56 => ⟨S1x1, .f32⟩
  | 57 => ⟨S1x1, .bf16⟩
  | 58 => ⟨S_, .f32⟩
  | 59 => ⟨S1x1, .f32⟩
  | 60 => ⟨S1x1, .bf16⟩
  | 61 => ⟨S_, .i32⟩
  | 62 => ⟨S4096x14336, .i32⟩
  | 63 => ⟨S4096x14336, .i32⟩
  | 64 => ⟨S_, .i32⟩
  | 65 => ⟨S4096x14336, .i32⟩
  | 66 => ⟨S4096x14336, .i1⟩
  | 67 => ⟨S4096x14336, .bf16⟩
  | 68 => ⟨S4096x14336, .bf16⟩
  | 69 => ⟨S4096x14336, .bf16⟩
  | 70 => ⟨S4096x14336, .bf16⟩
  | 71 => ⟨S4096x14336, .bf16⟩
  | 72 => ⟨S4096x14336, .bf16⟩
  | 73 => ⟨S4096x14336, .bf16⟩
  | 74 => ⟨S4096x14336, .bf16⟩
  | 75 => ⟨S4096x14336, .bf16⟩
  | 76 => ⟨S4096x14336, .bf16⟩
  | 77 => ⟨S4096x14336, .bf16⟩
  | 78 => ⟨S4096x14336, .bf16⟩
  | 79 => ⟨S4096x14336, .bf16⟩
  | 80 => ⟨S4096x14336, .bf16⟩
  | 81 => ⟨S4096x14336, .bf16⟩
  | 82 => ⟨S4096x14336, .bf16⟩
  | 83 => ⟨S4096x14336, .bf16⟩
  | 84 => ⟨S4096x14336, .bf16⟩
  | 85 => ⟨S4096x14336, .bf16⟩
  | 86 => ⟨S4096x14336, .bf16⟩
  | 87 => ⟨S4096x14336, .bf16⟩
  | 88 => ⟨S4096x14336, .bf16⟩
  | 89 => ⟨S4096x14336, .bf16⟩
  | 90 => ⟨S4096x14336, .bf16⟩
  | 91 => ⟨S_, .i32⟩
  | 92 => ⟨S4096x14336, .i32⟩
  | 93 => ⟨S4096x14336, .i32⟩
  | 94 => ⟨S_, .i32⟩
  | 95 => ⟨S4096x14336, .i32⟩
  | 96 => ⟨S4096x14336, .i1⟩
  | 97 => ⟨S4096x14336, .bf16⟩
  | 98 => ⟨S4096x14336, .bf16⟩
  | 99 => ⟨S4096x14336, .bf16⟩
  | 100 => ⟨S4096x14336, .bf16⟩
  | 101 => ⟨S_, .i32⟩
  | 102 => ⟨S4096x14336, .i32⟩
  | 103 => ⟨S4096x14336, .i32⟩
  | 104 => ⟨S_, .i32⟩
  | 105 => ⟨S4096x14336, .i32⟩
  | 106 => ⟨S4096x14336, .i1⟩
  | 107 => ⟨S4096x14336, .bf16⟩
  | 108 => ⟨S4096x14336, .bf16⟩
  | 109 => ⟨S_, .i32⟩
  | 110 => ⟨S4096x14336, .i32⟩
  | 111 => ⟨S4096x14336, .i32⟩
  | 112 => ⟨S_, .i32⟩
  | 113 => ⟨S4096x14336, .i32⟩
  | 114 => ⟨S4096x14336, .i1⟩
  | 115 => ⟨S4096x14336, .bf16⟩
  | 116 => ⟨S64x64x14336, .bf16⟩
  | 117 => ⟨S64x14336, .bf16⟩
  | 118 => ⟨S64x1x14336, .bf16⟩
  | 119 => ⟨S64x64x14336, .bf16⟩
  | 120 => ⟨S64x64x14336, .bf16⟩
  | 121 => ⟨S4096x14336, .bf16⟩
  | 122 => ⟨S64x14336, .f32⟩
  | 123 => ⟨S_, .f32⟩
  | 124 => ⟨S1x1, .f32⟩
  | 125 => ⟨S1x1, .bf16⟩
  | 126 => ⟨S_, .f32⟩
  | 127 => ⟨S1x1, .f32⟩
  | _ => ⟨S1x1024x4096, .bf16⟩

abbrev hbmTy0_1 (i : Nat) : BufTy := match i % 128 with
  | 0 => ⟨S1x1, .bf16⟩
  | 1 => ⟨S_, .f32⟩
  | 2 => ⟨S1x1, .f32⟩
  | 3 => ⟨S1x1, .bf16⟩
  | 4 => ⟨S_, .f32⟩
  | 5 => ⟨S1x1, .f32⟩
  | 6 => ⟨S1x1, .bf16⟩
  | 7 => ⟨S_, .f32⟩
  | 8 => ⟨S1x1, .f32⟩
  | 9 => ⟨S1x1, .bf16⟩
  | 10 => ⟨S_, .f32⟩
  | 11 => ⟨S1x1, .f32⟩
  | 12 => ⟨S1x1, .bf16⟩
  | 13 => ⟨S_, .f32⟩
  | 14 => ⟨S1x1, .f32⟩
  | 15 => ⟨S1x1, .bf16⟩
  | 16 => ⟨S_, .f32⟩
  | 17 => ⟨S1x1, .f32⟩
  | 18 => ⟨S1x1, .bf16⟩
  | 19 => ⟨S_, .f32⟩
  | 20 => ⟨S1x1, .f32⟩
  | 21 => ⟨S1x1, .bf16⟩
  | 22 => ⟨S_, .f32⟩
  | 23 => ⟨S1x1, .f32⟩
  | 24 => ⟨S1x1, .bf16⟩
  | 25 => ⟨S_, .f32⟩
  | 26 => ⟨S1x1, .f32⟩
  | 27 => ⟨S1x1, .bf16⟩
  | 28 => ⟨S_, .f32⟩
  | 29 => ⟨S1x1, .f32⟩
  | 30 => ⟨S1x1, .bf16⟩
  | 31 => ⟨S_, .f32⟩
  | 32 => ⟨S1x1, .f32⟩
  | 33 => ⟨S1x1, .bf16⟩
  | 34 => ⟨S_, .f32⟩
  | 35 => ⟨S1x1, .f32⟩
  | 36 => ⟨S1x1, .bf16⟩
  | 37 => ⟨S_, .f32⟩
  | 38 => ⟨S1x1, .f32⟩
  | 39 => ⟨S1x1, .bf16⟩
  | 40 => ⟨S_, .f32⟩
  | 41 => ⟨S1x1, .f32⟩
  | 42 => ⟨S1x1, .bf16⟩
  | 43 => ⟨S_, .i32⟩
  | 44 => ⟨S4096x14336, .i32⟩
  | 45 => ⟨S4096x14336, .i32⟩
  | 46 => ⟨S_, .i32⟩
  | 47 => ⟨S4096x14336, .i32⟩
  | 48 => ⟨S4096x14336, .i1⟩
  | 49 => ⟨S4096x14336, .bf16⟩
  | 50 => ⟨S4096x14336, .bf16⟩
  | 51 => ⟨S4096x14336, .bf16⟩
  | 52 => ⟨S4096x14336, .bf16⟩
  | 53 => ⟨S4096x14336, .bf16⟩
  | 54 => ⟨S4096x14336, .bf16⟩
  | 55 => ⟨S4096x14336, .bf16⟩
  | 56 => ⟨S4096x14336, .bf16⟩
  | 57 => ⟨S4096x14336, .bf16⟩
  | 58 => ⟨S4096x14336, .bf16⟩
  | 59 => ⟨S4096x14336, .bf16⟩
  | 60 => ⟨S4096x14336, .bf16⟩
  | 61 => ⟨S4096x14336, .bf16⟩
  | 62 => ⟨S4096x14336, .bf16⟩
  | 63 => ⟨S4096x14336, .bf16⟩
  | 64 => ⟨S4096x14336, .bf16⟩
  | 65 => ⟨S4096x14336, .bf16⟩
  | 66 => ⟨S4096x14336, .bf16⟩
  | 67 => ⟨S4096x14336, .bf16⟩
  | 68 => ⟨S4096x14336, .bf16⟩
  | 69 => ⟨S4096x14336, .bf16⟩
  | 70 => ⟨S4096x14336, .bf16⟩
  | 71 => ⟨S4096x14336, .bf16⟩
  | 72 => ⟨S4096x14336, .bf16⟩
  | 73 => ⟨S_, .i32⟩
  | 74 => ⟨S4096x14336, .i32⟩
  | 75 => ⟨S4096x14336, .i32⟩
  | 76 => ⟨S_, .i32⟩
  | 77 => ⟨S4096x14336, .i32⟩
  | 78 => ⟨S4096x14336, .i1⟩
  | 79 => ⟨S4096x14336, .bf16⟩
  | 80 => ⟨S4096x14336, .bf16⟩
  | 81 => ⟨S4096x14336, .bf16⟩
  | 82 => ⟨S4096x14336, .bf16⟩
  | 83 => ⟨S_, .i32⟩
  | 84 => ⟨S4096x14336, .i32⟩
  | 85 => ⟨S4096x14336, .i32⟩
  | 86 => ⟨S_, .i32⟩
  | 87 => ⟨S4096x14336, .i32⟩
  | 88 => ⟨S4096x14336, .i1⟩
  | 89 => ⟨S4096x14336, .bf16⟩
  | 90 => ⟨S4096x14336, .bf16⟩
  | 91 => ⟨S_, .i32⟩
  | 92 => ⟨S4096x14336, .i32⟩
  | 93 => ⟨S4096x14336, .i32⟩
  | 94 => ⟨S_, .i32⟩
  | 95 => ⟨S4096x14336, .i32⟩
  | 96 => ⟨S4096x14336, .i1⟩
  | 97 => ⟨S4096x14336, .bf16⟩
  | 98 => ⟨S64x64x14336, .bf16⟩
  | 99 => ⟨S64x14336, .bf16⟩
  | 100 => ⟨S64x1x14336, .bf16⟩
  | 101 => ⟨S64x64x14336, .bf16⟩
  | 102 => ⟨S64x64x14336, .bf16⟩
  | 103 => ⟨S4096x14336, .bf16⟩
  | 104 => ⟨S1x1024x16, .f32⟩
  | 105 => ⟨S1x1024x16, .bf16⟩
  | 106 => ⟨S16x14336, .bf16⟩
  | 107 => ⟨S1x1024x14336, .f32⟩
  | 108 => ⟨S16x14336, .bf16⟩
  | 109 => ⟨S1x1024x14336, .f32⟩
  | 110 => ⟨S1x1024x14336, .f32⟩
  | 111 => ⟨S1x1024x14336, .f32⟩
  | 112 => ⟨S_, .f32⟩
  | 113 => ⟨S1x1024x14336, .f32⟩
  | 114 => ⟨S1x1024x14336, .f32⟩
  | 115 => ⟨S1x1024x14336, .f32⟩
  | 116 => ⟨S1x1024x14336, .bf16⟩
  | 117 => ⟨S_, .f32⟩
  | 118 => ⟨S1x1024x14336, .f32⟩
  | 119 => ⟨S1x1024x14336, .f32⟩
  | 120 => ⟨S1x1024x14336, .f32⟩
  | 121 => ⟨S1x1024x14336, .bf16⟩
  | 122 => ⟨S1x1024x14336x1, .bf16⟩
  | 123 => ⟨S1x1024x14336x1, .bf16⟩
  | 124 => ⟨S1x1024x14336x2, .bf16⟩
  | 125 => ⟨S1024x28672, .bf16⟩
  | _ => ⟨S1x1024x4096, .bf16⟩

abbrev hbmTy (i : Nat) : BufTy := match i / 128 with
  | 0 => hbmTy0_0 i
  | 1 => hbmTy0_1 i
  | _ => ⟨S1x1024x4096, .bf16⟩

abbrev bufTy : (tb : Table) → Fin (tcTables nBuf tb) → BufTy
  | .hbm, ⟨i, _⟩ => hbmTy i
  | _, _ => ⟨S1x1024x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_cst_3 : Ref sig .tc := ⟨.hbm, 22, rfl⟩
abbrev main_v12 : Ref sig .tc := ⟨.hbm, 23, rfl⟩
abbrev main_v13 : Ref sig .tc := ⟨.hbm, 24, rfl⟩
abbrev main_cst_4 : Ref sig .tc := ⟨.hbm, 25, rfl⟩
abbrev main_v14 : Ref sig .tc := ⟨.hbm, 26, rfl⟩
abbrev main_v15 : Ref sig .tc := ⟨.hbm, 27, rfl⟩
abbrev main_cst_5 : Ref sig .tc := ⟨.hbm, 28, rfl⟩
abbrev main_v16 : Ref sig .tc := ⟨.hbm, 29, rfl⟩
abbrev main_v17 : Ref sig .tc := ⟨.hbm, 30, rfl⟩
abbrev main_cst_6 : Ref sig .tc := ⟨.hbm, 31, rfl⟩
abbrev main_v18 : Ref sig .tc := ⟨.hbm, 32, rfl⟩
abbrev main_v19 : Ref sig .tc := ⟨.hbm, 33, rfl⟩
abbrev main_cst_7 : Ref sig .tc := ⟨.hbm, 34, rfl⟩
abbrev main_v20 : Ref sig .tc := ⟨.hbm, 35, rfl⟩
abbrev main_v21 : Ref sig .tc := ⟨.hbm, 36, rfl⟩
abbrev main_cst_8 : Ref sig .tc := ⟨.hbm, 37, rfl⟩
abbrev main_v22 : Ref sig .tc := ⟨.hbm, 38, rfl⟩
abbrev main_v23 : Ref sig .tc := ⟨.hbm, 39, rfl⟩
abbrev main_cst_9 : Ref sig .tc := ⟨.hbm, 40, rfl⟩
abbrev main_v24 : Ref sig .tc := ⟨.hbm, 41, rfl⟩
abbrev main_v25 : Ref sig .tc := ⟨.hbm, 42, rfl⟩
abbrev main_cst_10 : Ref sig .tc := ⟨.hbm, 43, rfl⟩
abbrev main_v26 : Ref sig .tc := ⟨.hbm, 44, rfl⟩
abbrev main_v27 : Ref sig .tc := ⟨.hbm, 45, rfl⟩
abbrev main_cst_11 : Ref sig .tc := ⟨.hbm, 46, rfl⟩
abbrev main_v28 : Ref sig .tc := ⟨.hbm, 47, rfl⟩
abbrev main_v29 : Ref sig .tc := ⟨.hbm, 48, rfl⟩
abbrev main_cst_12 : Ref sig .tc := ⟨.hbm, 49, rfl⟩
abbrev main_v30 : Ref sig .tc := ⟨.hbm, 50, rfl⟩
abbrev main_v31 : Ref sig .tc := ⟨.hbm, 51, rfl⟩
abbrev main_cst_13 : Ref sig .tc := ⟨.hbm, 52, rfl⟩
abbrev main_v32 : Ref sig .tc := ⟨.hbm, 53, rfl⟩
abbrev main_v33 : Ref sig .tc := ⟨.hbm, 54, rfl⟩
abbrev main_cst_14 : Ref sig .tc := ⟨.hbm, 55, rfl⟩
abbrev main_v34 : Ref sig .tc := ⟨.hbm, 56, rfl⟩
abbrev main_v35 : Ref sig .tc := ⟨.hbm, 57, rfl⟩
abbrev main_cst_15 : Ref sig .tc := ⟨.hbm, 58, rfl⟩
abbrev main_v36 : Ref sig .tc := ⟨.hbm, 59, rfl⟩
abbrev main_v37 : Ref sig .tc := ⟨.hbm, 60, rfl⟩
abbrev main_c_16 : Ref sig .tc := ⟨.hbm, 61, rfl⟩
abbrev main_v38 : Ref sig .tc := ⟨.hbm, 62, rfl⟩
abbrev main_v39 : Ref sig .tc := ⟨.hbm, 63, rfl⟩
abbrev main_c_17 : Ref sig .tc := ⟨.hbm, 64, rfl⟩
abbrev main_v40 : Ref sig .tc := ⟨.hbm, 65, rfl⟩
abbrev main_v41 : Ref sig .tc := ⟨.hbm, 66, rfl⟩
abbrev main_call0_v0 : Ref sig .tc := ⟨.hbm, 67, rfl⟩
abbrev main_call0_v1 : Ref sig .tc := ⟨.hbm, 68, rfl⟩
abbrev main_v42 : Ref sig .tc := ⟨.hbm, 69, rfl⟩
abbrev main_call1_v0 : Ref sig .tc := ⟨.hbm, 70, rfl⟩
abbrev main_call1_v1 : Ref sig .tc := ⟨.hbm, 71, rfl⟩
abbrev main_v43 : Ref sig .tc := ⟨.hbm, 72, rfl⟩
abbrev main_call2_v0 : Ref sig .tc := ⟨.hbm, 73, rfl⟩
abbrev main_call2_v1 : Ref sig .tc := ⟨.hbm, 74, rfl⟩
abbrev main_v44 : Ref sig .tc := ⟨.hbm, 75, rfl⟩
abbrev main_call3_v0 : Ref sig .tc := ⟨.hbm, 76, rfl⟩
abbrev main_call3_v1 : Ref sig .tc := ⟨.hbm, 77, rfl⟩
abbrev main_v45 : Ref sig .tc := ⟨.hbm, 78, rfl⟩
abbrev main_call4_v0 : Ref sig .tc := ⟨.hbm, 79, rfl⟩
abbrev main_call4_v1 : Ref sig .tc := ⟨.hbm, 80, rfl⟩
abbrev main_v46 : Ref sig .tc := ⟨.hbm, 81, rfl⟩
abbrev main_call5_v0 : Ref sig .tc := ⟨.hbm, 82, rfl⟩
abbrev main_call5_v1 : Ref sig .tc := ⟨.hbm, 83, rfl⟩
abbrev main_v47 : Ref sig .tc := ⟨.hbm, 84, rfl⟩
abbrev main_call6_v0 : Ref sig .tc := ⟨.hbm, 85, rfl⟩
abbrev main_call6_v1 : Ref sig .tc := ⟨.hbm, 86, rfl⟩
abbrev main_v48 : Ref sig .tc := ⟨.hbm, 87, rfl⟩
abbrev main_call7_v0 : Ref sig .tc := ⟨.hbm, 88, rfl⟩
abbrev main_call7_v1 : Ref sig .tc := ⟨.hbm, 89, rfl⟩
abbrev main_v49 : Ref sig .tc := ⟨.hbm, 90, rfl⟩
abbrev main_c_18 : Ref sig .tc := ⟨.hbm, 91, rfl⟩
abbrev main_v50 : Ref sig .tc := ⟨.hbm, 92, rfl⟩
abbrev main_v51 : Ref sig .tc := ⟨.hbm, 93, rfl⟩
abbrev main_c_19 : Ref sig .tc := ⟨.hbm, 94, rfl⟩
abbrev main_v52 : Ref sig .tc := ⟨.hbm, 95, rfl⟩
abbrev main_v53 : Ref sig .tc := ⟨.hbm, 96, rfl⟩
abbrev main_v54 : Ref sig .tc := ⟨.hbm, 97, rfl⟩
abbrev main_v55 : Ref sig .tc := ⟨.hbm, 98, rfl⟩
abbrev main_v56 : Ref sig .tc := ⟨.hbm, 99, rfl⟩
abbrev main_v57 : Ref sig .tc := ⟨.hbm, 100, rfl⟩
abbrev main_c_20 : Ref sig .tc := ⟨.hbm, 101, rfl⟩
abbrev main_v58 : Ref sig .tc := ⟨.hbm, 102, rfl⟩
abbrev main_v59 : Ref sig .tc := ⟨.hbm, 103, rfl⟩
abbrev main_c_21 : Ref sig .tc := ⟨.hbm, 104, rfl⟩
abbrev main_v60 : Ref sig .tc := ⟨.hbm, 105, rfl⟩
abbrev main_v61 : Ref sig .tc := ⟨.hbm, 106, rfl⟩
abbrev main_v62 : Ref sig .tc := ⟨.hbm, 107, rfl⟩
abbrev main_v63 : Ref sig .tc := ⟨.hbm, 108, rfl⟩
abbrev main_c_22 : Ref sig .tc := ⟨.hbm, 109, rfl⟩
abbrev main_v64 : Ref sig .tc := ⟨.hbm, 110, rfl⟩
abbrev main_v65 : Ref sig .tc := ⟨.hbm, 111, rfl⟩
abbrev main_c_23 : Ref sig .tc := ⟨.hbm, 112, rfl⟩
abbrev main_v66 : Ref sig .tc := ⟨.hbm, 113, rfl⟩
abbrev main_v67 : Ref sig .tc := ⟨.hbm, 114, rfl⟩
abbrev main_v68 : Ref sig .tc := ⟨.hbm, 115, rfl⟩
abbrev main_v69 : Ref sig .tc := ⟨.hbm, 116, rfl⟩
abbrev main_v70 : Ref sig .tc := ⟨.hbm, 117, rfl⟩
abbrev main_v71 : Ref sig .tc := ⟨.hbm, 118, rfl⟩
abbrev main_v72 : Ref sig .tc := ⟨.hbm, 119, rfl⟩
abbrev main_v73 : Ref sig .tc := ⟨.hbm, 120, rfl⟩
abbrev main_v74 : Ref sig .tc := ⟨.hbm, 121, rfl⟩
abbrev main_v75 : Ref sig .tc := ⟨.hbm, 122, rfl⟩
abbrev main_cst_24 : Ref sig .tc := ⟨.hbm, 123, rfl⟩
abbrev main_v76 : Ref sig .tc := ⟨.hbm, 124, rfl⟩
abbrev main_v77 : Ref sig .tc := ⟨.hbm, 125, rfl⟩
abbrev main_cst_25 : Ref sig .tc := ⟨.hbm, 126, rfl⟩
abbrev main_v78 : Ref sig .tc := ⟨.hbm, 127, rfl⟩
abbrev main_v79 : Ref sig .tc := ⟨.hbm, 128, rfl⟩
abbrev main_cst_26 : Ref sig .tc := ⟨.hbm, 129, rfl⟩
abbrev main_v80 : Ref sig .tc := ⟨.hbm, 130, rfl⟩
abbrev main_v81 : Ref sig .tc := ⟨.hbm, 131, rfl⟩
abbrev main_cst_27 : Ref sig .tc := ⟨.hbm, 132, rfl⟩
abbrev main_v82 : Ref sig .tc := ⟨.hbm, 133, rfl⟩
abbrev main_v83 : Ref sig .tc := ⟨.hbm, 134, rfl⟩
abbrev main_cst_28 : Ref sig .tc := ⟨.hbm, 135, rfl⟩
abbrev main_v84 : Ref sig .tc := ⟨.hbm, 136, rfl⟩
abbrev main_v85 : Ref sig .tc := ⟨.hbm, 137, rfl⟩
abbrev main_cst_29 : Ref sig .tc := ⟨.hbm, 138, rfl⟩
abbrev main_v86 : Ref sig .tc := ⟨.hbm, 139, rfl⟩
abbrev main_v87 : Ref sig .tc := ⟨.hbm, 140, rfl⟩
abbrev main_cst_30 : Ref sig .tc := ⟨.hbm, 141, rfl⟩
abbrev main_v88 : Ref sig .tc := ⟨.hbm, 142, rfl⟩
abbrev main_v89 : Ref sig .tc := ⟨.hbm, 143, rfl⟩
abbrev main_cst_31 : Ref sig .tc := ⟨.hbm, 144, rfl⟩
abbrev main_v90 : Ref sig .tc := ⟨.hbm, 145, rfl⟩
abbrev main_v91 : Ref sig .tc := ⟨.hbm, 146, rfl⟩
abbrev main_cst_32 : Ref sig .tc := ⟨.hbm, 147, rfl⟩
abbrev main_v92 : Ref sig .tc := ⟨.hbm, 148, rfl⟩
abbrev main_v93 : Ref sig .tc := ⟨.hbm, 149, rfl⟩
abbrev main_cst_33 : Ref sig .tc := ⟨.hbm, 150, rfl⟩
abbrev main_v94 : Ref sig .tc := ⟨.hbm, 151, rfl⟩
abbrev main_v95 : Ref sig .tc := ⟨.hbm, 152, rfl⟩
abbrev main_cst_34 : Ref sig .tc := ⟨.hbm, 153, rfl⟩
abbrev main_v96 : Ref sig .tc := ⟨.hbm, 154, rfl⟩
abbrev main_v97 : Ref sig .tc := ⟨.hbm, 155, rfl⟩
abbrev main_cst_35 : Ref sig .tc := ⟨.hbm, 156, rfl⟩
abbrev main_v98 : Ref sig .tc := ⟨.hbm, 157, rfl⟩
abbrev main_v99 : Ref sig .tc := ⟨.hbm, 158, rfl⟩
abbrev main_cst_36 : Ref sig .tc := ⟨.hbm, 159, rfl⟩
abbrev main_v100 : Ref sig .tc := ⟨.hbm, 160, rfl⟩
abbrev main_v101 : Ref sig .tc := ⟨.hbm, 161, rfl⟩
abbrev main_cst_37 : Ref sig .tc := ⟨.hbm, 162, rfl⟩
abbrev main_v102 : Ref sig .tc := ⟨.hbm, 163, rfl⟩
abbrev main_v103 : Ref sig .tc := ⟨.hbm, 164, rfl⟩
abbrev main_cst_38 : Ref sig .tc := ⟨.hbm, 165, rfl⟩
abbrev main_v104 : Ref sig .tc := ⟨.hbm, 166, rfl⟩
abbrev main_v105 : Ref sig .tc := ⟨.hbm, 167, rfl⟩
abbrev main_cst_39 : Ref sig .tc := ⟨.hbm, 168, rfl⟩
abbrev main_v106 : Ref sig .tc := ⟨.hbm, 169, rfl⟩
abbrev main_v107 : Ref sig .tc := ⟨.hbm, 170, rfl⟩
abbrev main_c_40 : Ref sig .tc := ⟨.hbm, 171, rfl⟩
abbrev main_v108 : Ref sig .tc := ⟨.hbm, 172, rfl⟩
abbrev main_v109 : Ref sig .tc := ⟨.hbm, 173, rfl⟩
abbrev main_c_41 : Ref sig .tc := ⟨.hbm, 174, rfl⟩
abbrev main_v110 : Ref sig .tc := ⟨.hbm, 175, rfl⟩
abbrev main_v111 : Ref sig .tc := ⟨.hbm, 176, rfl⟩
abbrev main_call15_v0 : Ref sig .tc := ⟨.hbm, 177, rfl⟩
abbrev main_call15_v1 : Ref sig .tc := ⟨.hbm, 178, rfl⟩
abbrev main_v112 : Ref sig .tc := ⟨.hbm, 179, rfl⟩
abbrev main_call16_v0 : Ref sig .tc := ⟨.hbm, 180, rfl⟩
abbrev main_call16_v1 : Ref sig .tc := ⟨.hbm, 181, rfl⟩
abbrev main_v113 : Ref sig .tc := ⟨.hbm, 182, rfl⟩
abbrev main_call17_v0 : Ref sig .tc := ⟨.hbm, 183, rfl⟩
abbrev main_call17_v1 : Ref sig .tc := ⟨.hbm, 184, rfl⟩
abbrev main_v114 : Ref sig .tc := ⟨.hbm, 185, rfl⟩
abbrev main_call18_v0 : Ref sig .tc := ⟨.hbm, 186, rfl⟩
abbrev main_call18_v1 : Ref sig .tc := ⟨.hbm, 187, rfl⟩
abbrev main_v115 : Ref sig .tc := ⟨.hbm, 188, rfl⟩
abbrev main_call19_v0 : Ref sig .tc := ⟨.hbm, 189, rfl⟩
abbrev main_call19_v1 : Ref sig .tc := ⟨.hbm, 190, rfl⟩
abbrev main_v116 : Ref sig .tc := ⟨.hbm, 191, rfl⟩
abbrev main_call20_v0 : Ref sig .tc := ⟨.hbm, 192, rfl⟩
abbrev main_call20_v1 : Ref sig .tc := ⟨.hbm, 193, rfl⟩
abbrev main_v117 : Ref sig .tc := ⟨.hbm, 194, rfl⟩
abbrev main_call21_v0 : Ref sig .tc := ⟨.hbm, 195, rfl⟩
abbrev main_call21_v1 : Ref sig .tc := ⟨.hbm, 196, rfl⟩
abbrev main_v118 : Ref sig .tc := ⟨.hbm, 197, rfl⟩
abbrev main_call22_v0 : Ref sig .tc := ⟨.hbm, 198, rfl⟩
abbrev main_call22_v1 : Ref sig .tc := ⟨.hbm, 199, rfl⟩
abbrev main_v119 : Ref sig .tc := ⟨.hbm, 200, rfl⟩
abbrev main_c_42 : Ref sig .tc := ⟨.hbm, 201, rfl⟩
abbrev main_v120 : Ref sig .tc := ⟨.hbm, 202, rfl⟩
abbrev main_v121 : Ref sig .tc := ⟨.hbm, 203, rfl⟩
abbrev main_c_43 : Ref sig .tc := ⟨.hbm, 204, rfl⟩
abbrev main_v122 : Ref sig .tc := ⟨.hbm, 205, rfl⟩
abbrev main_v123 : Ref sig .tc := ⟨.hbm, 206, rfl⟩
abbrev main_v124 : Ref sig .tc := ⟨.hbm, 207, rfl⟩
abbrev main_v125 : Ref sig .tc := ⟨.hbm, 208, rfl⟩
abbrev main_v126 : Ref sig .tc := ⟨.hbm, 209, rfl⟩
abbrev main_v127 : Ref sig .tc := ⟨.hbm, 210, rfl⟩
abbrev main_c_44 : Ref sig .tc := ⟨.hbm, 211, rfl⟩
abbrev main_v128 : Ref sig .tc := ⟨.hbm, 212, rfl⟩
abbrev main_v129 : Ref sig .tc := ⟨.hbm, 213, rfl⟩
abbrev main_c_45 : Ref sig .tc := ⟨.hbm, 214, rfl⟩
abbrev main_v130 : Ref sig .tc := ⟨.hbm, 215, rfl⟩
abbrev main_v131 : Ref sig .tc := ⟨.hbm, 216, rfl⟩
abbrev main_v132 : Ref sig .tc := ⟨.hbm, 217, rfl⟩
abbrev main_v133 : Ref sig .tc := ⟨.hbm, 218, rfl⟩
abbrev main_c_46 : Ref sig .tc := ⟨.hbm, 219, rfl⟩
abbrev main_v134 : Ref sig .tc := ⟨.hbm, 220, rfl⟩
abbrev main_v135 : Ref sig .tc := ⟨.hbm, 221, rfl⟩
abbrev main_c_47 : Ref sig .tc := ⟨.hbm, 222, rfl⟩
abbrev main_v136 : Ref sig .tc := ⟨.hbm, 223, rfl⟩
abbrev main_v137 : Ref sig .tc := ⟨.hbm, 224, rfl⟩
abbrev main_v138 : Ref sig .tc := ⟨.hbm, 225, rfl⟩
abbrev main_v139 : Ref sig .tc := ⟨.hbm, 226, rfl⟩
abbrev main_v140 : Ref sig .tc := ⟨.hbm, 227, rfl⟩
abbrev main_v141 : Ref sig .tc := ⟨.hbm, 228, rfl⟩
abbrev main_v142 : Ref sig .tc := ⟨.hbm, 229, rfl⟩
abbrev main_v143 : Ref sig .tc := ⟨.hbm, 230, rfl⟩
abbrev main_v144 : Ref sig .tc := ⟨.hbm, 231, rfl⟩
abbrev main_v145 : Ref sig .tc := ⟨.hbm, 232, rfl⟩
abbrev main_v146 : Ref sig .tc := ⟨.hbm, 233, rfl⟩
abbrev main_v147 : Ref sig .tc := ⟨.hbm, 234, rfl⟩
abbrev main_v148 : Ref sig .tc := ⟨.hbm, 235, rfl⟩
abbrev main_v149 : Ref sig .tc := ⟨.hbm, 236, rfl⟩
abbrev main_v150 : Ref sig .tc := ⟨.hbm, 237, rfl⟩
abbrev main_v151 : Ref sig .tc := ⟨.hbm, 238, rfl⟩
abbrev main_v152 : Ref sig .tc := ⟨.hbm, 239, rfl⟩
abbrev main_cst_48 : Ref sig .tc := ⟨.hbm, 240, rfl⟩
abbrev main_v153 : Ref sig .tc := ⟨.hbm, 241, rfl⟩
abbrev main_v154 : Ref sig .tc := ⟨.hbm, 242, rfl⟩
abbrev main_v155 : Ref sig .tc := ⟨.hbm, 243, rfl⟩
abbrev main_v156 : Ref sig .tc := ⟨.hbm, 244, rfl⟩
abbrev main_cst_49 : Ref sig .tc := ⟨.hbm, 245, rfl⟩
abbrev main_v157 : Ref sig .tc := ⟨.hbm, 246, rfl⟩
abbrev main_v158 : Ref sig .tc := ⟨.hbm, 247, rfl⟩
abbrev main_v159 : Ref sig .tc := ⟨.hbm, 248, rfl⟩
abbrev main_v160 : Ref sig .tc := ⟨.hbm, 249, rfl⟩
abbrev main_v161 : Ref sig .tc := ⟨.hbm, 250, rfl⟩
abbrev main_v162 : Ref sig .tc := ⟨.hbm, 251, rfl⟩
abbrev main_v163 : Ref sig .tc := ⟨.hbm, 252, rfl⟩
abbrev main_v164 : Ref sig .tc := ⟨.hbm, 253, rfl⟩

abbrev nD : Nat := 1
abbrev τ : Topo := Topo.v7x

variable {F : FTy → Type} [FloatOps F]
-- ==== Proof.Frames.lean ====
/-
  The frames: each program runs to its end without a fault, leaves its argument arrays unchanged and every semaphore at
  zero.
-/
module

public import proofs.«01_k».proof.Defs
public import proofs.«01_k».proof.Proof.Gen.Kernel.Frame
public import proofs.«01_k».proof.Proof.Gen.KernelIdeal.Frame
public import proofs.«01_k».proof.Proof.Gen.ReferenceIdeal.Run

@[expose] public section

noncomputable section

namespace Cert.Proof

open Idealize.ShloMosaic Idealize.SL.Sem

/-- The kernel as printed, at hardware words: it runs, its arguments end unchanged, every counter ends at zero. -/
theorem frame_kernel : Cert.quiescent_Kernel := fun m ρ _ => Cert.Kernel.Gen.frame m ρ

/-- The kernel over the extended reals: the same. -/
theorem frame_kernelIdeal : Cert.quiescent_KernelIdeal := fun m ρ _ => Cert.KernelIdeal.Gen.frame m ρ

/-- The reference over the extended reals: the same; it declares no semaphore. -/
theorem frame_referenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.Proof

end
-- ==== Proof.Tile.lean ====
/-
  One 16x128 tile of the dequantised weight, as the kernel computes it.

  The kernel moves packed bytes with 32-bit words: a gather along the lanes (half the lanes' bytes, each twice), a
  shift by 0 or 4 by the lane's parity, a mask, a gather along the rows that doubles each row, an OR with a constant
  above bit 11 of each 16-bit half, a view as 16-bit words, a mask, a gather from the 16-row table. The lemmas here read
  that chain at one element: it is the table's row named by one nibble of one packed byte.
-/
module

public import proofs.«01_k».proof.Proof.Gen.KernelIdeal.Skeleton
public import Idealize.ShloMosaic.Lib.BitcastPair
public import Idealize.ShloMosaic.Lib.ValueIdx
public import Idealize.ShloMosaic.Lib.Pipeline.Value
public import Idealize.ShloMosaic.Lib.Pointwise.ElementwiseCore

@[expose] public section

noncomputable section

namespace Cert.Proof.Tile

open Cert.KernelIdeal Cert.KernelIdeal.Gen Idealize.ShloMosaic Idealize.ShloMosaic.ValueIdx

/-- A reinterpretation of the elements of a matrix at another width, bit by bit: bit `q` of the element at row `a` is bit
    `(a * w + q) % v` of the source element at row `(a * w + q) / v` of the same lane. -/
theorem bitcast_bit {R r n v w : Nat} (x : (⟨2, ![R, n]⟩ : Shape).Idx → BitVec v)
    (h : (⟨2, ![R, n]⟩ : Shape).Bitcasts v ⟨2, ![r, n]⟩ w) (a : Fin r) (l : Fin n) (q : Nat) (hq : q < w) (hv : 0 < v)
    (p : Fin R) (hp : p.val = (a.val * w + q) / v) :
    (bitcast ⟨2, ![r, n]⟩ w x h (ix2 a l)).getLsbD q = (x (ix2 p l)).getLsbD ((a.val * w + q) % v) := by
  rw [bitcast_getLsbD x h _ q hq hv]
  congr 2
  funext c
  match c with
  | ⟨0, _⟩ => exact Fin.ext ((h.srcIdx_row _ _ _ ⟨0, Nat.zero_lt_two⟩ rfl).trans hp.symm)
  | ⟨1, _⟩ => exact Fin.ext (h.srcIdx_other _ _ _ ⟨1, Nat.one_lt_two⟩ (by show ¬ 1 + 2 = 2; omega))

/-- A gather along the lanes. -/
theorem gather_lanes {a b : Nat} {α : Type} (x : (⟨2, ![a, b]⟩ : Shape).Idx → α) (idx : IVec ⟨2, ![a, b]⟩ 32) (i : Fin a) (j : Fin b)
    (k : Fin b) (hk : k.val = (idx (ix2 i j)).toNat % b) :
    dynamicGather (s := ⟨2, ![a, b]⟩) 1 x idx (ix2 i j) = x (ix2 i k) := by
  rw [dynamicGather_apply]
  congr 1
  funext c
  match c with
  | ⟨0, _⟩ => rfl
  | ⟨1, _⟩ => exact Fin.ext hk.symm

/-- A gather along the rows. -/
theorem gather_rows {a b : Nat} {α : Type} (x : (⟨2, ![a, b]⟩ : Shape).Idx → α) (idx : IVec ⟨2, ![a, b]⟩ 32) (i : Fin a) (j : Fin b)
    (k : Fin a) (hk : k.val = (idx (ix2 i j)).toNat % a) :
    dynamicGather (s := ⟨2, ![a, b]⟩) 0 x idx (ix2 i j) = x (ix2 k j) := by
  rw [dynamicGather_apply]
  congr 1
  funext c
  match c with
  | ⟨0, _⟩ => exact Fin.ext hk.symm
  | ⟨1, _⟩ => rfl

variable {F : FTy → Type} [FloatOps F]

/-- The nibbles of one block of 32 packed rows, as bytes: lane `l` of the result is lane `half l` of the block, shifted by
    0 or 4 with `l`'s parity and masked. -/
def nibbles (v80 v84 : IVec S8x128 32) (w : Vec F S32x128 .i8) : IVec S32x128 8 :=
  bitcast S32x128 8 (andi (shrui (dynamicGather 1 (bitcast S8x128 32 w bitcasts_S32x128_w8_S8x128_w32)
    (shapeCast S8x128 (shapeCast S8x128x1 v84 shapeCasts_S8x128_S8x128x1) shapeCasts_S8x128x1_S8x128)) v80)
    (broadcast S8x128 252645135#32)) bitcasts_S8x128_w32_S32x128_w8

/-- The 16-bit words of 16 rows of nibbles, each row of the block named twice by `dup`. -/
def words (dup : IVec S32x128 8) (v75 : IVec S8x128 32) (nib : IVec S32x128 8) : IVec S16x128 16 :=
  bitcast S16x128 16 (ori (bitcast S8x128 32 (dynamicGather 0 nib
    (shapeCast S32x128 (shapeCast S32x128x1 (extui 32 dup natLt_8_32) shapeCasts_S32x128_S32x128x1) shapeCasts_S32x128x1_S32x128))
    bitcasts_S32x128_w8_S8x128_w32) v75) bitcasts_S8x128_w32_S16x128_w16

/-- The table's rows named by the words' low four bits. -/
def pick (tab : FVec F S16x128 .bf16) (e : IVec S16x128 16) : FVec F S16x128 .bf16 :=
  shapeCast S16x128 (dynamicGather 0 tab
    (shapeCast S16x128 (shapeCast S16x128x1 (extsi 32 (andi e (broadcast S16x128 15#16)) natLt_16_32) shapeCasts_S16x128_S16x128x1) shapeCasts_S16x128x1_S16x128))
    shapeCasts_S16x128_S16x128

/-- The table of one group of 128 columns: the quantisation levels times the columns' scales. -/
def table (off : Nat) (hs : (⟨2, ![1, 512]⟩ : Shape).Slices ![0, off] ⟨2, ![1, 128]⟩) (v4 : FVec F S16x128 .bf16) (am : Vec F S1x512 .f32) : FVec F S16x128 .bf16 :=
  mulf v4 (truncf .bf16 (broadcastTo S16x128 (shapeCast S1x128 (extractStridedSlice S1x128 ![0, off] am hs) shapeCasts_S1x128_S1x128)
    broadcasts_S1x128_S16x128) bitsLt_bf16_f32)

/-- The words, at one bit: bit `q < 4` of the word at row `r` is bit `q` of the nibble row `p` that `dup` names at row `2r`. -/
theorem words_bit (dup nib : IVec S32x128 8) (r : Fin 16) (l : Fin 128) (p : Fin 32)
    (hdup : (dup (ix2 (⟨2 * r.val, by omega⟩ : Fin 32) l)).toNat = p.val) (q : Nat) (hq : q < 4) :
    (words dup k0_pay44 nib (ix2 r l)).getLsbD q = (nib (ix2 p l)).getLsbD q := by
  have hr := r.isLt
  unfold words
  rw [bitcast_bit (R := 8) _ _ r l q (by omega) (by omega) (⟨r.val / 2, by omega⟩ : Fin 8) (by show r.val / 2 = _; omega)]
  rw [show (r.val * 16 + q) % 32 = 16 * (r.val % 2) + q by omega]
  show (BitVec.or _ (268439552#32)).getLsbD _ = _
  rw [show ∀ x y : BitVec 32, BitVec.or x y = x ||| y from fun _ _ => rfl, BitVec.getLsbD_or]
  have hhi : (268439552#32).getLsbD (16 * (r.val % 2) + q) = false := by
    have : ∀ a : Fin 2, ∀ q : Fin 4, (268439552#32).getLsbD (16 * a.val + q.val) = false := by decide
    exact this ⟨r.val % 2, by omega⟩ ⟨q, hq⟩
  rw [hhi, Bool.or_false]
  rw [bitcast_bit (R := 32) (r := 8) _ _ ⟨r.val / 2, by omega⟩ l _ (by omega) (by omega) (⟨2 * r.val, by omega⟩ : Fin 32)
    (by show 2 * r.val = (r.val / 2 * 32 + _) / 8; omega)]
  rw [show ((⟨r.val / 2, by omega⟩ : Fin 8).val * 32 + (16 * (r.val % 2) + q)) % 8 = q by show (r.val / 2 * 32 + (16 * (r.val % 2) + q)) % 8 = q; omega]
  rw [gather_rows _ _ _ _ p (by
    rw [shapeCast_shapeCast]
    show p.val = ((dup _).setWidth 32).toNat % 32
    rw [BitVec.toNat_setWidth, hdup]
    have := p.isLt
    omega)]

/-- The nibbles, at one bit: bit `q < 4` of row `p`, lane `l`, is bit `nb + q` of the packed byte at row `p` and the lane `h`
    that `v84` names, `nb` (0 or 4) the shift that `v80` holds at the lane. -/
theorem nibbles_bit (v80 v84 : IVec S8x128 32) (w : Vec F S32x128 .i8) (l h : Fin 128) (nb : Nat) (hnb : nb + 4 ≤ 8) (p : Fin 32)
    (h84 : ∀ a : Fin 8, (v84 (ix2 a l)).toNat = h.val) (h80 : ∀ a : Fin 8, (v80 (ix2 a l)).toNat = nb) (q : Nat) (hq : q < 4) :
    (nibbles (F := F) v80 v84 w (ix2 p l)).getLsbD q = ((show BitVec 8 from w (ix2 p h)).getLsbD (nb + q)) := by
  have hp := p.isLt
  unfold nibbles
  rw [bitcast_bit (R := 8) _ _ p l q (by omega) (by omega) (⟨p.val / 4, by omega⟩ : Fin 8) (by show p.val / 4 = _; omega)]
  rw [show (p.val * 8 + q) % 32 = 8 * (p.val % 4) + q by omega]
  show (BitVec.and (IntOp.shrui .vector _ (v80 (ix2 (⟨p.val / 4, by omega⟩ : Fin 8) l))) (252645135#32)).getLsbD _ = _
  rw [show ∀ x y : BitVec 32, BitVec.and x y = x &&& y from fun _ _ => rfl, BitVec.getLsbD_and]
  have hmask : (252645135#32).getLsbD (8 * (p.val % 4) + q) = true := by
    have : ∀ a : Fin 4, ∀ q : Fin 4, (252645135#32).getLsbD (8 * a.val + q.val) = true := by decide
    exact this ⟨p.val % 4, by omega⟩ ⟨q, hq⟩
  rw [hmask, Bool.and_true]
  unfold IntOp.shrui
  rw [if_pos (by rw [h80]; omega), BitVec.ushiftRight_eq', h80, BitVec.getLsbD_ushiftRight]
  rw [gather_lanes _ _ _ _ h (by
    rw [shapeCast_shapeCast, h84]
    exact (Nat.mod_eq_of_lt h.isLt).symm)]
  rw [bitcast_bit (R := 32) (r := 8) _ _ ⟨p.val / 4, by omega⟩ h _ (by omega) (by omega) p
    (by show p.val = (p.val / 4 * 32 + _) / 8; omega)]
  rw [show ((⟨p.val / 4, by omega⟩ : Fin 8).val * 32 + (nb + (8 * (p.val % 4) + q))) % 8 = nb + q by
    show (p.val / 4 * 32 + (nb + (8 * (p.val % 4) + q))) % 8 = nb + q; omega]

/-- The table row picked at one element: the row that the word's low four bits name. -/
theorem pick_apply (tab : FVec F S16x128 .bf16) (e : IVec S16x128 16) (r : Fin 16) (l : Fin 128) (k : Fin 16)
    (hk : k.val = (e (ix2 r l)).toNat % 16) : pick tab e (ix2 r l) = tab (ix2 k l) := by
  unfold pick
  rw [shapeCast_self, gather_rows _ _ _ _ k (by
    rw [shapeCast_shapeCast]
    show k.val = ((BitVec.and (e (ix2 r l)) 15#16).signExtend 32).toNat % 16
    rw [show ∀ x y : BitVec 16, BitVec.and x y = x &&& y from fun _ _ => rfl,
      BitVec.signExtend_eq_setWidth_of_msb_false (by rw [BitVec.msb_and, show (15#16).msb = false by decide, Bool.and_false]), BitVec.toNat_setWidth, BitVec.toNat_and, hk]
    show _ = ((e (ix2 r l)).toNat &&& (2 ^ 4 - 1)) % 2 ^ 32 % 16
    rw [Nat.and_two_pow_sub_one_eq_mod]
    omega)]

/-- The nibble of a byte that starts at bit `nb`, as a row of the table. -/
def code (b : BitVec 8) (nb : Nat) : Fin 16 := ⟨b.toNat / 2 ^ nb % 16, Nat.mod_lt _ (by decide)⟩

/-- One element of a tile of the dequantised weight: the table row named by one nibble of one packed byte. -/
theorem tile_apply (tab : FVec F S16x128 .bf16) (dup : IVec S32x128 8) (v80 v84 : IVec S8x128 32) (w : Vec F S32x128 .i8)
    (r : Fin 16) (l h : Fin 128) (nb : Nat) (hnb : nb + 4 ≤ 8) (p : Fin 32)
    (h84 : ∀ a : Fin 8, (v84 (ix2 a l)).toNat = h.val) (h80 : ∀ a : Fin 8, (v80 (ix2 a l)).toNat = nb)
    (hdup : (dup (ix2 (⟨2 * r.val, by omega⟩ : Fin 32) l)).toNat = p.val) :
    pick tab (words dup k0_pay44 (nibbles (F := F) v80 v84 w)) (ix2 r l) = tab (ix2 (code (w (ix2 p h)) nb) l) := by
  refine pick_apply _ _ _ _ _ ?_
  show (show BitVec 8 from w (ix2 p h)).toNat / 2 ^ nb % 2 ^ 4 = _ % 2 ^ 4
  refine Nat.eq_of_testBit_eq fun i => ?_
  rw [Nat.testBit_mod_two_pow, Nat.testBit_mod_two_pow]
  by_cases hi : i < 4
  · have e := (words_bit dup (nibbles (F := F) v80 v84 w) r l p hdup i hi).trans (nibbles_bit v80 v84 w l h nb hnb p h84 h80 i hi)
    rw [Nat.testBit_div_two_pow, Nat.add_comm i nb]
    exact congrArg (fun b => decide (i < 4) && b) e.symm
  · simp [hi]

/-! ## The constant arrays -/

/-- The parity shift: 0 at an even lane, 4 at an odd one. -/
theorem shift_apply (a : Fin 8) (l : Fin 128) : (k0_pay45 (ix2 a l)).toNat = 4 * (l.val % 2) := by
  unfold k0_pay45
  dsimp only
  show (IntOp.muli (IntOp.andi (iota .tc S8x128 32 [1] iota_S8x128_d1_w32 (ix2 a l)) 1#32) 4#32).toNat = _
  rw [iota_single_apply .tc S8x128 32 1]
  show (IntOp.muli (IntOp.andi (BitVec.ofNat 32 l.val) 1#32) 4#32).toNat = _
  revert l
  decide

/-- The lanes gathered for the first half of a block's lanes: lane `l` reads lane `l / 2`. -/
theorem half0_apply (a : Fin 8) (l : Fin 128) : (k0_pay1 (iota .tc S8x128 32 [1] iota_S8x128_d1_w32) (ix2 a l)).toNat = l.val / 2 := by
  unfold k0_pay1
  dsimp only
  show (IntOp.addi (IntOp.shrsi .vector (iota .tc S8x128 32 [1] iota_S8x128_d1_w32 (ix2 a l)) 1#32) 0#32).toNat = _
  rw [iota_single_apply .tc S8x128 32 1]
  show (IntOp.addi (IntOp.shrsi .vector (BitVec.ofNat 32 l.val) 1#32) 0#32).toNat = _
  revert l
  decide

/-- The lanes gathered for the second half: lane `l` reads lane `l / 2 + 64`. -/
theorem half1_apply (a : Fin 8) (l : Fin 128) : (k0_pay2 (iota .tc S8x128 32 [1] iota_S8x128_d1_w32) (ix2 a l)).toNat = l.val / 2 + 64 := by
  unfold k0_pay2
  dsimp only
  show (IntOp.addi (IntOp.shrsi .vector (iota .tc S8x128 32 [1] iota_S8x128_d1_w32 (ix2 a l)) 1#32) 64#32).toNat = _
  rw [iota_single_apply .tc S8x128 32 1]
  show (IntOp.addi (IntOp.shrsi .vector (BitVec.ofNat 32 l.val) 1#32) 64#32).toNat = _
  revert l
  decide

/-- The word of row `a` of the row-doubling pattern with base `o`. -/
def dupWord (o x : BitVec 32) : BitVec 32 :=
  IntOp.ori (IntOp.ori (IntOp.ori
    (IntOp.addi (IntOp.shrsi .vector (IntOp.muli x 4#32) 1#32) o)
    (IntOp.shli .vector (IntOp.addi (IntOp.shrsi .vector (IntOp.addi (IntOp.muli x 4#32) 1#32) 1#32) o) 8#32))
    (IntOp.shli .vector (IntOp.addi (IntOp.shrsi .vector (IntOp.addi (IntOp.muli x 4#32) 2#32) 1#32) o) 16#32))
    (IntOp.shli .vector (IntOp.addi (IntOp.shrsi .vector (IntOp.addi (IntOp.muli x 4#32) 3#32) 1#32) o) 24#32)

/-- The row-doubling pattern of the tile's first 16 rows: row `2r` names row `r`. -/
theorem dup0_apply (r : Fin 16) (l : Fin 128) :
    (k0_pay42 k0_pay41 (ix2 (⟨2 * r.val, by omega⟩ : Fin 32) l)).toNat = r.val := by
  have e : k0_pay42 k0_pay41 (ix2 (⟨2 * r.val, by omega⟩ : Fin 32) l) = BitVec.ofNat 8 r.val := by
    refine BitVec.eq_of_getLsbD_eq fun q hq => ?_
    unfold k0_pay42
    rw [bitcast_bit (R := 8) (r := 32) _ _ (⟨2 * r.val, by omega⟩ : Fin 32) l q hq (by omega) (⟨r.val / 2, by omega⟩ : Fin 8)
      (by show r.val / 2 = (2 * r.val * 8 + q) / 32; omega)]
    show (dupWord 0#32 (iota .tc S8x128 32 [0] iota_S8x128_d0_w32 (ix2 (⟨r.val / 2, by omega⟩ : Fin 8) l))).getLsbD _ = _
    rw [iota_single_apply .tc S8x128 32 0]
    show (dupWord 0#32 (BitVec.ofNat 32 (r.val / 2))).getLsbD ((2 * r.val * 8 + q) % 32) = _
    have : ∀ r : Fin 16, ∀ q : Fin 8, (dupWord 0#32 (BitVec.ofNat 32 (r.val / 2))).getLsbD ((2 * r.val * 8 + q.val) % 32)
        = (BitVec.ofNat 8 r.val).getLsbD q.val := by decide
    exact this r ⟨q, hq⟩
  rw [e, BitVec.toNat_ofNat]
  have := r.isLt
  omega

/-- The row-doubling pattern of the tile's last 16 rows: row `2r` names row `r + 16`. -/
theorem dup1_apply (r : Fin 16) (l : Fin 128) :
    (k0_pay43 (ix2 (⟨2 * r.val, by omega⟩ : Fin 32) l)).toNat = r.val + 16 := by
  have e : k0_pay43 (ix2 (⟨2 * r.val, by omega⟩ : Fin 32) l) = BitVec.ofNat 8 (r.val + 16) := by
    refine BitVec.eq_of_getLsbD_eq fun q hq => ?_
    unfold k0_pay43
    dsimp only
    rw [bitcast_bit (R := 8) (r := 32) _ _ (⟨2 * r.val, by omega⟩ : Fin 32) l q hq (by omega) (⟨r.val / 2, by omega⟩ : Fin 8)
      (by show r.val / 2 = (2 * r.val * 8 + q) / 32; omega)]
    show (dupWord 16#32 (iota .tc S8x128 32 [0] iota_S8x128_d0_w32 (ix2 (⟨r.val / 2, by omega⟩ : Fin 8) l))).getLsbD _ = _
    rw [iota_single_apply .tc S8x128 32 0]
    show (dupWord 16#32 (BitVec.ofNat 32 (r.val / 2))).getLsbD ((2 * r.val * 8 + q) % 32) = _
    have : ∀ r : Fin 16, ∀ q : Fin 8, (dupWord 16#32 (BitVec.ofNat 32 (r.val / 2))).getLsbD ((2 * r.val * 8 + q.val) % 32)
        = (BitVec.ofNat 8 (r.val + 16)).getLsbD q.val := by decide
    exact this r ⟨q, hq⟩
  rw [e, BitVec.toNat_ofNat]
  have := r.isLt
  omega

/-- The table at one element: the level of the row times the column's scale. -/
theorem table_apply (off : Nat) (hs : (⟨2, ![1, 512]⟩ : Shape).Slices ![0, off] ⟨2, ![1, 128]⟩) (v4 : FVec Ideal S16x128 .bf16) (am : Vec Ideal S1x512 .f32)
    (k : Fin 16) (l : Fin 128) (n : Fin 512) (hn : n.val = off + l.val) :
    table (F := Ideal) off hs v4 am (ix2 k l) = (show EReal from v4 (ix2 k l)) * (show EReal from am (ix2 (0 : Fin 1) n)) := by
  unfold table
  rw [shapeCast_self]
  refine congrArg (fun i => (show EReal from v4 (ix2 k l)) * (show EReal from am i)) (a₁ := fun a => _) (funext fun a => ?_)
  match a with
  | ⟨0, _⟩ => rfl
  | ⟨1, _⟩ => exact Fin.ext hn.symm

end Cert.Proof.Tile
-- ==== Proof.Trip.lean ====
/-
  One trip of the kernel's loop, and all of them: the tiles stored into the scratch array are the tiles of one array, the
  dequantised weight of the block.
-/
module

public import proofs.«01_k».proof.Proof.Gen.KernelIdeal.Loops
public import proofs.«01_k».proof.Proof.Tile
public import Idealize.ShloMosaic.Lib.Pipeline.ReadBack
public import Idealize.ShloMosaic.Lib.Ring
public import Idealize.ShloMosaic.Lib.Pipeline.ValueKit.Tiles

@[expose] public section

set_option maxRecDepth 16384

noncomputable section

namespace Cert.Proof.Tile

open Cert.KernelIdeal Cert.KernelIdeal.Gen Idealize.ShloMosaic Idealize.ShloMosaic.ValueIdx Idealize.ShloMosaic.TcCoe Idealize.ShloMosaic.Tactic

variable {F : FTy → Type} [FloatOps F]

section Trip

variable (𝒱 : Variants) (c : Dev nD) (bd : Option 𝒱.V) (i : grid0.Coords)
  (arg1 : Memref sig .tc .vmem S1024x4096 .bf16) (harg1 : arg1.IsWhole) (arg2 : Memref sig .tc .vmem S4096x256 .i8) (harg2 : arg2.IsWhole)
  (arg3 : Memref sig .tc .vmem S64x512 .f32) (harg3 : arg3.IsWhole) (arg4 : Memref sig .tc .vmem S4096x16 .bf16) (harg4 : arg4.IsWhole)
  (arg5 : Memref sig .tc .vmem S16x512 .bf16) (harg5 : arg5.IsWhole) (arg6 : Memref sig .tc .vmem S16x128 .bf16) (harg6 : arg6.IsWhole)
  (arg7 : Memref sig .tc .vmem S1024x512 .bf16) (harg7 : arg7.IsWhole) (arg8 : Memref sig .tc .vmem S4096x512 .bf16) (harg8 : arg8.IsWhole)
  (arg9 : Memref sig .tc .vmem S1024x16 .bf16) (harg9 : arg9.IsWhole)

/-- What one trip stores, last store first: for each group of 128 columns, each block of 32 packed rows and each half of it,
    one tile of 16 rows. -/
theorem trip_list (v4 : FVec F S16x128 .bf16) (v39 v74 : IVec S32x128 8) (v75 v76 v80 : IVec S8x128 32)
    (X2 : BufTy.Contents (Elt F) arg2.view.ty) (X3 : BufTy.Contents (Elt F) arg3.view.ty) (k : Fin k0_t1_loop.trips) :
    tripL_k0_t1 (F := F) 𝒱 c bd i arg1 harg1 arg2 harg2 arg3 harg3 arg4 harg4 arg5 harg5 arg6 harg6 arg7 harg7 arg8 harg8 arg9 harg9 v4 v39 v74 v75 v76 v80 X2 X3 k = [
    (⟨Rect.unit (s := S4096x512) (k0_off7 k 32#32 16#32) S16x128.size (k0_off7_inb k 1 1),
      pick (table 384 slices_S1x512_o0_384_S1x128 v4 (View.readAt (Elt F) arg3.view (Rect.unit (s := S64x512) (k0_off1 k) S1x512.size (k0_off1_inb k)).toLoadRect X3)) (words v74 v75 (nibbles (F := F) v80 (k0_pay2 v76) (View.readAt (Elt F) arg2.view (Rect.unit (s := S4096x256) (k0_off5 k 32#32) S32x128.size (k0_off5_inb k 1)).toLoadRect X2)))⟩ : View.Piece (Elt F) S4096x512 .bf16),
    (⟨Rect.unit (s := S4096x512) (k0_off7 k 32#32 0#32) S16x128.size (k0_off7_inb k 1 0),
      pick (table 384 slices_S1x512_o0_384_S1x128 v4 (View.readAt (Elt F) arg3.view (Rect.unit (s := S64x512) (k0_off1 k) S1x512.size (k0_off1_inb k)).toLoadRect X3)) (words v39 v75 (nibbles (F := F) v80 (k0_pay2 v76) (View.readAt (Elt F) arg2.view (Rect.unit (s := S4096x256) (k0_off5 k 32#32) S32x128.size (k0_off5_inb k 1)).toLoadRect X2)))⟩ : View.Piece (Elt F) S4096x512 .bf16),
    (⟨Rect.unit (s := S4096x512) (k0_off7 k 0#32 16#32) S16x128.size (k0_off7_inb k 0 1),
      pick (table 384 slices_S1x512_o0_384_S1x128 v4 (View.readAt (Elt F) arg3.view (Rect.unit (s := S64x512) (k0_off1 k) S1x512.size (k0_off1_inb k)).toLoadRect X3)) (words v74 v75 (nibbles (F := F) v80 (k0_pay2 v76) (View.readAt (Elt F) arg2.view (Rect.unit (s := S4096x256) (k0_off5 k 0#32) S32x128.size (k0_off5_inb k 0)).toLoadRect X2)))⟩ : View.Piece (Elt F) S4096x512 .bf16),
    (⟨Rect.unit (s := S4096x512) (k0_off7 k 0#32 0#32) S16x128.size (k0_off7_inb k 0 0),
      pick (table 384 slices_S1x512_o0_384_S1x128 v4 (View.readAt (Elt F) arg3.view (Rect.unit (s := S64x512) (k0_off1 k) S1x512.size (k0_off1_inb k)).toLoadRect X3)) (words v39 v75 (nibbles (F := F) v80 (k0_pay2 v76) (View.readAt (Elt F) arg2.view (Rect.unit (s := S4096x256) (k0_off5 k 0#32) S32x128.size (k0_off5_inb k 0)).toLoadRect X2)))⟩ : View.Piece (Elt F) S4096x512 .bf16),
    (⟨Rect.unit (s := S4096x512) (k0_off6 k 32#32 16#32) S16x128.size (k0_off6_inb k 1 1),
      pick (table 256 slices_S1x512_o0_256_S1x128 v4 (View.readAt (Elt F) arg3.view (Rect.unit (s := S64x512) (k0_off1 k) S1x512.size (k0_off1_inb k)).toLoadRect X3)) (words v74 v75 (nibbles (F := F) v80 (k0_pay1 v76) (View.readAt (Elt F) arg2.view (Rect.unit (s := S4096x256) (k0_off5 k 32#32) S32x128.size (k0_off5_inb k 1)).toLoadRect X2)))⟩ : View.Piece (Elt F) S4096x512 .bf16),
    (⟨Rect.unit (s := S4096x512) (k0_off6 k 32#32 0#32) S16x128.size (k0_off6_inb k 1 0),
      pick (table 256 slices_S1x512_o0_256_S1x128 v4 (View.readAt (Elt F) arg3.view (Rect.unit (s := S64x512) (k0_off1 k) S1x512.size (k0_off1_inb k)).toLoadRect X3)) (words v39 v75 (nibbles (F := F) v80 (k0_pay1 v76) (View.readAt (Elt F) arg2.view (Rect.unit (s := S4096x256) (k0_off5 k 32#32) S32x128.size (k0_off5_inb k 1)).toLoadRect X2)))⟩ : View.Piece (Elt F) S4096x512 .bf16),
    (⟨Rect.unit (s := S4096x512) (k0_off6 k 0#32 16#32) S16x128.size (k0_off6_inb k 0 1),
      pick (table 256 slices_S1x512_o0_256_S1x128 v4 (View.readAt (Elt F) arg3.view (Rect.unit (s := S64x512) (k0_off1 k) S1x512.size (k0_off1_inb k)).toLoadRect X3)) (words v74 v75 (nibbles (F := F) v80 (k0_pay1 v76) (View.readAt (Elt F) arg2.view (Rect.unit (s := S4096x256) (k0_off5 k 0#32) S32x128.size (k0_off5_inb k 0)).toLoadRect X2)))⟩ : View.Piece (Elt F) S4096x512 .bf16),
    (⟨Rect.unit (s := S4096x512) (k0_off6 k 0#32 0#32) S16x128.size (k0_off6_inb k 0 0),
      pick (table 256 slices_S1x512_o0_256_S1x128 v4 (View.readAt (Elt F) arg3.view (Rect.unit (s := S64x512) (k0_off1 k) S1x512.size (k0_off1_inb k)).toLoadRect X3)) (words v39 v75 (nibbles (F := F) v80 (k0_pay1 v76) (View.readAt (Elt F) arg2.view (Rect.unit (s := S4096x256) (k0_off5 k 0#32) S32x128.size (k0_off5_inb k 0)).toLoadRect X2)))⟩ : View.Piece (Elt F) S4096x512 .bf16),
    (⟨Rect.unit (s := S4096x512) (k0_off4 k 32#32 16#32) S16x128.size (k0_off4_inb k 1 1),
      pick (table 128 slices_S1x512_o0_128_S1x128 v4 (View.readAt (Elt F) arg3.view (Rect.unit (s := S64x512) (k0_off1 k) S1x512.size (k0_off1_inb k)).toLoadRect X3)) (words v74 v75 (nibbles (F := F) v80 (k0_pay2 v76) (View.readAt (Elt F) arg2.view (Rect.unit (s := S4096x256) (k0_off2 k 32#32) S32x128.size (k0_off2_inb k 1)).toLoadRect X2)))⟩ : View.Piece (Elt F) S4096x512 .bf16),
    (⟨Rect.unit (s := S4096x512) (k0_off4 k 32#32 0#32) S16x128.size (k0_off4_inb k 1 0),
      pick (table 128 slices_S1x512_o0_128_S1x128 v4 (View.readAt (Elt F) arg3.view (Rect.unit (s := S64x512) (k0_off1 k) S1x512.size (k0_off1_inb k)).toLoadRect X3)) (words v39 v75 (nibbles (F := F) v80 (k0_pay2 v76) (View.readAt (Elt F) arg2.view (Rect.unit (s := S4096x256) (k0_off2 k 32#32) S32x128.size (k0_off2_inb k 1)).toLoadRect X2)))⟩ : View.Piece (Elt F) S4096x512 .bf16),
    (⟨Rect.unit (s := S4096x512) (k0_off4 k 0#32 16#32) S16x128.size (k0_off4_inb k 0 1),
      pick (table 128 slices_S1x512_o0_128_S1x128 v4 (View.readAt (Elt F) arg3.view (Rect.unit (s := S64x512) (k0_off1 k) S1x512.size (k0_off1_inb k)).toLoadRect X3)) (words v74 v75 (nibbles (F := F) v80 (k0_pay2 v76) (View.readAt (Elt F) arg2.view (Rect.unit (s := S4096x256) (k0_off2 k 0#32) S32x128.size (k0_off2_inb k 0)).toLoadRect X2)))⟩ : View.Piece (Elt F) S4096x512 .bf16),
    (⟨Rect.unit (s := S4096x512) (k0_off4 k 0#32 0#32) S16x128.size (k0_off4_inb k 0 0),
      pick (table 128 slices_S1x512_o0_128_S1x128 v4 (View.readAt (Elt F) arg3.view (Rect.unit (s := S64x512) (k0_off1 k) S1x512.size (k0_off1_inb k)).toLoadRect X3)) (words v39 v75 (nibbles (F := F) v80 (k0_pay2 v76) (View.readAt (Elt F) arg2.view (Rect.unit (s := S4096x256) (k0_off2 k 0#32) S32x128.size (k0_off2_inb k 0)).toLoadRect X2)))⟩ : View.Piece (Elt F) S4096x512 .bf16),
    (⟨Rect.unit (s := S4096x512) (k0_off3 k 32#32 16#32) S16x128.size (k0_off3_inb k 1 1),
      pick (table 0 slices_S1x512_o0_0_S1x128 v4 (View.readAt (Elt F) arg3.view (Rect.unit (s := S64x512) (k0_off1 k) S1x512.size (k0_off1_inb k)).toLoadRect X3)) (words v74 v75 (nibbles (F := F) v80 (k0_pay1 v76) (View.readAt (Elt F) arg2.view (Rect.unit (s := S4096x256) (k0_off2 k 32#32) S32x128.size (k0_off2_inb k 1)).toLoadRect X2)))⟩ : View.Piece (Elt F) S4096x512 .bf16),
    (⟨Rect.unit (s := S4096x512) (k0_off3 k 32#32 0#32) S16x128.size (k0_off3_inb k 1 0),
      pick (table 0 slices_S1x512_o0_0_S1x128 v4 (View.readAt (Elt F) arg3.view (Rect.unit (s := S64x512) (k0_off1 k) S1x512.size (k0_off1_inb k)).toLoadRect X3)) (words v39 v75 (nibbles (F := F) v80 (k0_pay1 v76) (View.readAt (Elt F) arg2.view (Rect.unit (s := S4096x256) (k0_off2 k 32#32) S32x128.size (k0_off2_inb k 1)).toLoadRect X2)))⟩ : View.Piece (Elt F) S4096x512 .bf16),
    (⟨Rect.unit (s := S4096x512) (k0_off3 k 0#32 16#32) S16x128.size (k0_off3_inb k 0 1),
      pick (table 0 slices_S1x512_o0_0_S1x128 v4 (View.readAt (Elt F) arg3.view (Rect.unit (s := S64x512) (k0_off1 k) S1x512.size (k0_off1_inb k)).toLoadRect X3)) (words v74 v75 (nibbles (F := F) v80 (k0_pay1 v76) (View.readAt (Elt F) arg2.view (Rect.unit (s := S4096x256) (k0_off2 k 0#32) S32x128.size (k0_off2_inb k 0)).toLoadRect X2)))⟩ : View.Piece (Elt F) S4096x512 .bf16),
    (⟨Rect.unit (s := S4096x512) (k0_off3 k 0#32 0#32) S16x128.size (k0_off3_inb k 0 0),
      pick (table 0 slices_S1x512_o0_0_S1x128 v4 (View.readAt (Elt F) arg3.view (Rect.unit (s := S64x512) (k0_off1 k) S1x512.size (k0_off1_inb k)).toLoadRect X3)) (words v39 v75 (nibbles (F := F) v80 (k0_pay1 v76) (View.readAt (Elt F) arg2.view (Rect.unit (s := S4096x256) (k0_off2 k 0#32) S32x128.size (k0_off2_inb k 0)).toLoadRect X2)))⟩ : View.Piece (Elt F) S4096x512 .bf16)] := by
  unfold tripL_k0_t1 trip_k0_t1
  dsimp only
  sl_unfold_words
  rfl

end Trip

/-! ## The dequantised weight of a block -/

/-- The dequantised weight of one block of 512 columns, from the levels (one per row, the same in every lane), the block's packed bytes
    and its scales: row `d`, column `n` is the level that `n`'s nibble of byte `(d, n / 2)` names, times the scale `(d / 64, n)`. -/
def weight (v4 : FVec Ideal S16x128 .bf16) (W : Vec Ideal S4096x256 .i8) (AM : Vec Ideal S64x512 .f32) : S4096x512.Idx → Elt Ideal .bf16 := fun y =>
  let d : Fin 4096 := y 0
  let n : Fin 512 := y 1
  (show EReal from v4 (ix2 (code (W (ix2 d (⟨n.val / 2, by omega⟩ : Fin 256))) (4 * (n.val % 2))) (⟨n.val % 128, by omega⟩ : Fin 128)))
    * (show EReal from AM (ix2 (⟨d.val / 64, by omega⟩ : Fin 64) n))

/-- One element of one tile is the weight's element there. -/
theorem tile_eq_weight (k : Fin 64) (g j c p : Fin 2) (v4 : FVec Ideal S16x128 .bf16) (W : Vec Ideal S4096x256 .i8) (AM : Vec Ideal S64x512 .f32)
    (w : Vec Ideal S32x128 .i8) (am : Vec Ideal S1x512 .f32)
    (hw : ∀ (a : Fin 32) (h : Fin 128), w (ix2 a h) = W (ix2 (⟨64 * k.val + 32 * g.val + a.val, by omega⟩ : Fin 4096) (⟨128 * c.val + h.val, by omega⟩ : Fin 256)))
    (ham : ∀ n : Fin 512, am (ix2 (0 : Fin 1) n) = AM (ix2 k n))
    (dup : IVec S32x128 8) (half : IVec S8x128 32)
    (hdup : ∀ (r : Fin 16) (l : Fin 128), (dup (ix2 (⟨2 * r.val, by omega⟩ : Fin 32) l)).toNat = r.val + 16 * j.val)
    (hhalf : ∀ (a : Fin 8) (l : Fin 128), (half (ix2 a l)).toNat = l.val / 2 + 64 * p.val)
    (off : Nat) (hoff : off = 256 * c.val + 128 * p.val) (hs : (⟨2, ![1, 512]⟩ : Shape).Slices ![0, off] ⟨2, ![1, 128]⟩) (r : Fin 16) (l : Fin 128) :
    pick (table (F := Ideal) off hs v4 am) (words dup k0_pay44 (nibbles (F := Ideal) k0_pay45 half w)) (ix2 r l)
      = weight v4 W AM (ix2 (⟨64 * k.val + 32 * g.val + 16 * j.val + r.val, by omega⟩ : Fin 4096) (⟨off + l.val, by omega⟩ : Fin 512)) := by
  rw [tile_apply _ dup k0_pay45 half w r l (⟨l.val / 2 + 64 * p.val, by omega⟩ : Fin 128) (4 * (l.val % 2)) (by omega)
    (⟨r.val + 16 * j.val, by omega⟩ : Fin 32) (fun a => hhalf a l) (fun a => shift_apply a l) (hdup r l)]
  rw [table_apply off hs v4 am _ l (⟨off + l.val, by omega⟩ : Fin 512) rfl, ham, hw]
  have e1 : (⟨64 * k.val + 32 * g.val + (r.val + 16 * j.val), by omega⟩ : Fin 4096) = ⟨64 * k.val + 32 * g.val + 16 * j.val + r.val, by omega⟩ :=
    Fin.ext (by
    show 64 * k.val + 32 * g.val + (r.val + 16 * j.val) = 64 * k.val + 32 * g.val + 16 * j.val + r.val; omega)
  have e2 : (⟨128 * c.val + (l.val / 2 + 64 * p.val), by omega⟩ : Fin 256) = ⟨(off + l.val) / 2, by omega⟩ :=
    Fin.ext (by show 128 * c.val + (l.val / 2 + 64 * p.val) = (off + l.val) / 2; omega)
  have e3 : l = (⟨(off + l.val) % 128, by omega⟩ : Fin 128) := Fin.ext (by show l.val = (off + l.val) % 128; omega)
  have e4 : 4 * (l.val % 2) = 4 * ((off + l.val) % 2) := by omega
  have e5 : k = (⟨(64 * k.val + 32 * g.val + 16 * j.val + r.val) / 64, by omega⟩ : Fin 64) := Fin.ext (by
    show k.val = (64 * k.val + 32 * g.val + 16 * j.val + r.val) / 64; omega)
  show _ = (show EReal from v4 (ix2 (code (W (ix2 (⟨64 * k.val + 32 * g.val + 16 * j.val + r.val, _⟩ : Fin 4096) (⟨(off + l.val) / 2, _⟩ : Fin 256)))
      (4 * ((off + l.val) % 2))) (⟨(off + l.val) % 128, _⟩ : Fin 128)))
    * (show EReal from AM (ix2 (⟨(64 * k.val + 32 * g.val + 16 * j.val + r.val) / 64, _⟩ : Fin 64) (⟨off + l.val, _⟩ : Fin 512)))
  rw [e1, e2, ← e3, ← e4, ← e5]

/-- A block of 32 packed rows, loaded from the bytes. -/
theorem load_bytes {M : Memref sig .tc .vmem S4096x256 .i8} (X : BufTy.Contents (Elt Ideal) M.view.ty) (W : Vec Ideal S4096x256 .i8)
    (hX : M.view.read (Elt Ideal) X = W) (k : Fin 64) (g c : Fin 2) (off : Fin 2 → Nat) (hoff : off = ![64 * k.val + 32 * g.val, 128 * c.val])
    (inb : ∀ a, off a + S32x128.size a ≤ S4096x256.size a) (a : Fin 32) (h : Fin 128) :
    View.readAt (Elt Ideal) M.view (Rect.unit (s := S4096x256) off S32x128.size inb).toLoadRect X (ix2 a h)
      = W (ix2 (⟨64 * k.val + 32 * g.val + a.val, by omega⟩ : Fin 4096) (⟨128 * c.val + h.val, by omega⟩ : Fin 256)) := by
  rw [View.readAt_eq_ld, hX]
  subst hoff
  refine View.ld_unit_apply_of W _ _ _ _ _ fun b => ?_
  match b with
  | ⟨0, _⟩ => rfl
  | ⟨1, _⟩ => rfl

/-- One row of the block's scales, loaded. -/
theorem load_scales {M : Memref sig .tc .vmem S64x512 .f32} (X : BufTy.Contents (Elt Ideal) M.view.ty) (AM : Vec Ideal S64x512 .f32)
    (hX : M.view.read (Elt Ideal) X = AM) (k : Fin 64) (off : Fin 2 → Nat) (hoff : off = ![k.val, 0])
    (inb : ∀ a, off a + S1x512.size a ≤ S64x512.size a) (n : Fin 512) :
    View.readAt (Elt Ideal) M.view (Rect.unit (s := S64x512) off S1x512.size inb).toLoadRect X (ix2 (0 : Fin 1) n) = AM (ix2 k n) := by
  rw [View.readAt_eq_ld, hX]
  subst hoff
  refine View.ld_unit_apply_of AM _ _ _ _ _ fun b => ?_
  match b with
  | ⟨0, _⟩ => rfl
  | ⟨1, _⟩ => exact (Nat.zero_add _).symm

/-- One stored tile is the weight, restricted to the tile's rectangle. -/
theorem store_apply (k : Fin 64) (g j c p : Fin 2) (v4 : FVec Ideal S16x128 .bf16) (W : Vec Ideal S4096x256 .i8) (AM : Vec Ideal S64x512 .f32)
    (w : Vec Ideal S32x128 .i8) (am : Vec Ideal S1x512 .f32)
    (hw : ∀ (a : Fin 32) (h : Fin 128), w (ix2 a h) = W (ix2 (⟨64 * k.val + 32 * g.val + a.val, by omega⟩ : Fin 4096) (⟨128 * c.val + h.val, by omega⟩ : Fin 256)))
    (ham : ∀ n : Fin 512, am (ix2 (0 : Fin 1) n) = AM (ix2 k n))
    {dup : IVec S32x128 8} {half : IVec S8x128 32}
    (hdup : ∀ (r : Fin 16) (l : Fin 128), (dup (ix2 (⟨2 * r.val, by omega⟩ : Fin 32) l)).toNat = r.val + 16 * j.val)
    (hhalf : ∀ (a : Fin 8) (l : Fin 128), (half (ix2 a l)).toNat = l.val / 2 + 64 * p.val)
    (off : Nat) (hoff : off = 256 * c.val + 128 * p.val) (hs : (⟨2, ![1, 512]⟩ : Shape).Slices ![0, off] ⟨2, ![1, 128]⟩)
    (ro : Fin 2 → Nat) (hro : ro = ![64 * k.val + 32 * g.val + 16 * j.val, off]) (inb : ∀ a, ro a + S16x128.size a ≤ S4096x512.size a)
    (y : (Rect.unit (s := S4096x512) ro S16x128.size inb).shape.Idx) :
    pick (table (F := Ideal) off hs v4 am) (words dup k0_pay44 (nibbles (F := Ideal) k0_pay45 half w)) y
      = weight v4 W AM ((Rect.unit (s := S4096x512) ro S16x128.size inb).emb y) := by
  let r : Fin 16 := y 0
  let l : Fin 128 := y 1
  have hy : y = ix2 r l := funext fun a => by match a with
    | ⟨0, _⟩ => rfl
    | ⟨1, _⟩ => rfl
  have e := tile_eq_weight k g j c p v4 W AM w am hw ham dup half hdup hhalf off hoff hs r l
  rw [hy]
  refine e.trans (congrArg (weight v4 W AM) (funext fun a => Fin.ext ?_))
  subst hro
  rw [Rect.emb_apply]
  match a with
  | ⟨0, _⟩ => show _ = 64 * k.val + 32 * g.val + 16 * j.val + 1 * r.val; show 64 * k.val + 32 * g.val + 16 * j.val + r.val = _; omega
  | ⟨1, _⟩ => show off + l.val = off + 1 * l.val; omega

section Trips

variable (𝒱 : Variants) (c : Dev nD) (bd : Option 𝒱.V) (i : grid0.Coords)
  (arg1 : Memref sig .tc .vmem S1024x4096 .bf16) (harg1 : arg1.IsWhole) (arg2 : Memref sig .tc .vmem S4096x256 .i8) (harg2 : arg2.IsWhole)
  (arg3 : Memref sig .tc .vmem S64x512 .f32) (harg3 : arg3.IsWhole) (arg4 : Memref sig .tc .vmem S4096x16 .bf16) (harg4 : arg4.IsWhole)
  (arg5 : Memref sig .tc .vmem S16x512 .bf16) (harg5 : arg5.IsWhole) (arg6 : Memref sig .tc .vmem S16x128 .bf16) (harg6 : arg6.IsWhole)
  (arg7 : Memref sig .tc .vmem S1024x512 .bf16) (harg7 : arg7.IsWhole) (arg8 : Memref sig .tc .vmem S4096x512 .bf16) (harg8 : arg8.IsWhole)
  (arg9 : Memref sig .tc .vmem S1024x16 .bf16) (harg9 : arg9.IsWhole)

/-- Every store of one trip is the weight, restricted to the store's rectangle. -/
theorem trip_pieces (v4 : FVec Ideal S16x128 .bf16) (W : Vec Ideal S4096x256 .i8) (AM : Vec Ideal S64x512 .f32)
    (X2 : BufTy.Contents (Elt Ideal) arg2.view.ty) (X3 : BufTy.Contents (Elt Ideal) arg3.view.ty)
    (h2 : arg2.view.read (Elt Ideal) X2 = W) (h3 : arg3.view.read (Elt Ideal) X3 = AM) (k : Fin k0_t1_loop.trips) :
    ∀ q ∈ tripL_k0_t1 (F := Ideal) 𝒱 c bd i arg1 harg1 arg2 harg2 arg3 harg3 arg4 harg4 arg5 harg5 arg6 harg6 arg7 harg7 arg8 harg8 arg9 harg9 v4 (k0_pay42 k0_pay41) k0_pay43 k0_pay44 (iota .tc S8x128 32 [1] iota_S8x128_d1_w32) k0_pay45 X2 X3 k,
      ∀ y : q.1.shape.Idx, q.2 y = weight v4 W AM (q.1.emb y) := by
  have hk : k.val < 64 := Nat.lt_of_lt_of_le k.isLt (by decide)
  let k' : Fin 64 := ⟨k.val, hk⟩
  rw [trip_list]
  intro q hq y
  simp only [List.mem_cons, List.not_mem_nil, or_false] at hq
  rcases hq with rfl | rfl | rfl | rfl | rfl | rfl | rfl | rfl | rfl | rfl | rfl | rfl | rfl | rfl | rfl | rfl
  · exact store_apply k' 1 1 1 1 v4 W AM _ _ (load_bytes X2 W h2 k' 1 1 _ (k0_off5_eq k 1) (k0_off5_inb k 1)) (load_scales X3 AM h3 k' _ (k0_off1_eq k) (k0_off1_inb k))
      dup1_apply half1_apply _ rfl _ _ (k0_off7_eq k 1 1) (k0_off7_inb k 1 1) y
  · exact store_apply k' 1 0 1 1 v4 W AM _ _ (load_bytes X2 W h2 k' 1 1 _ (k0_off5_eq k 1) (k0_off5_inb k 1)) (load_scales X3 AM h3 k' _ (k0_off1_eq k) (k0_off1_inb k))
      dup0_apply half1_apply _ rfl _ _ (k0_off7_eq k 1 0) (k0_off7_inb k 1 0) y
  · exact store_apply k' 0 1 1 1 v4 W AM _ _ (load_bytes X2 W h2 k' 0 1 _ (k0_off5_eq k 0) (k0_off5_inb k 0)) (load_scales X3 AM h3 k' _ (k0_off1_eq k) (k0_off1_inb k))
      dup1_apply half1_apply _ rfl _ _ (k0_off7_eq k 0 1) (k0_off7_inb k 0 1) y
  · exact store_apply k' 0 0 1 1 v4 W AM _ _ (load_bytes X2 W h2 k' 0 1 _ (k0_off5_eq k 0) (k0_off5_inb k 0)) (load_scales X3 AM h3 k' _ (k0_off1_eq k) (k0_off1_inb k))
      dup0_apply half1_apply _ rfl _ _ (k0_off7_eq k 0 0) (k0_off7_inb k 0 0) y
  · exact store_apply k' 1 1 1 0 v4 W AM _ _ (load_bytes X2 W h2 k' 1 1 _ (k0_off5_eq k 1) (k0_off5_inb k 1)) (load_scales X3 AM h3 k' _ (k0_off1_eq k) (k0_off1_inb k))
      dup1_apply half0_apply _ rfl _ _ (k0_off6_eq k 1 1) (k0_off6_inb k 1 1) y
  · exact store_apply k' 1 0 1 0 v4 W AM _ _ (load_bytes X2 W h2 k' 1 1 _ (k0_off5_eq k 1) (k0_off5_inb k 1)) (load_scales X3 AM h3 k' _ (k0_off1_eq k) (k0_off1_inb k))
      dup0_apply half0_apply _ rfl _ _ (k0_off6_eq k 1 0) (k0_off6_inb k 1 0) y
  · exact store_apply k' 0 1 1 0 v4 W AM _ _ (load_bytes X2 W h2 k' 0 1 _ (k0_off5_eq k 0) (k0_off5_inb k 0)) (load_scales X3 AM h3 k' _ (k0_off1_eq k) (k0_off1_inb k))
      dup1_apply half0_apply _ rfl _ _ (k0_off6_eq k 0 1) (k0_off6_inb k 0 1) y
  · exact store_apply k' 0 0 1 0 v4 W AM _ _ (load_bytes X2 W h2 k' 0 1 _ (k0_off5_eq k 0) (k0_off5_inb k 0)) (load_scales X3 AM h3 k' _ (k0_off1_eq k) (k0_off1_inb k))
      dup0_apply half0_apply _ rfl _ _ (k0_off6_eq k 0 0) (k0_off6_inb k 0 0) y
  · exact store_apply k' 1 1 0 1 v4 W AM _ _ (load_bytes X2 W h2 k' 1 0 _ (k0_off2_eq k 1) (k0_off2_inb k 1)) (load_scales X3 AM h3 k' _ (k0_off1_eq k) (k0_off1_inb k))
      dup1_apply half1_apply _ rfl _ _ (k0_off4_eq k 1 1) (k0_off4_inb k 1 1) y
  · exact store_apply k' 1 0 0 1 v4 W AM _ _ (load_bytes X2 W h2 k' 1 0 _ (k0_off2_eq k 1) (k0_off2_inb k 1)) (load_scales X3 AM h3 k' _ (k0_off1_eq k) (k0_off1_inb k))
      dup0_apply half1_apply _ rfl _ _ (k0_off4_eq k 1 0) (k0_off4_inb k 1 0) y
  · exact store_apply k' 0 1 0 1 v4 W AM _ _ (load_bytes X2 W h2 k' 0 0 _ (k0_off2_eq k 0) (k0_off2_inb k 0)) (load_scales X3 AM h3 k' _ (k0_off1_eq k) (k0_off1_inb k))
      dup1_apply half1_apply _ rfl _ _ (k0_off4_eq k 0 1) (k0_off4_inb k 0 1) y
  · exact store_apply k' 0 0 0 1 v4 W AM _ _ (load_bytes X2 W h2 k' 0 0 _ (k0_off2_eq k 0) (k0_off2_inb k 0)) (load_scales X3 AM h3 k' _ (k0_off1_eq k) (k0_off1_inb k))
      dup0_apply half1_apply _ rfl _ _ (k0_off4_eq k 0 0) (k0_off4_inb k 0 0) y
  · exact store_apply k' 1 1 0 0 v4 W AM _ _ (load_bytes X2 W h2 k' 1 0 _ (k0_off2_eq k 1) (k0_off2_inb k 1)) (load_scales X3 AM h3 k' _ (k0_off1_eq k) (k0_off1_inb k))
      dup1_apply half0_apply _ rfl _ _ (k0_off3_eq k 1 1) (k0_off3_inb k 1 1) y
  · exact store_apply k' 1 0 0 0 v4 W AM _ _ (load_bytes X2 W h2 k' 1 0 _ (k0_off2_eq k 1) (k0_off2_inb k 1)) (load_scales X3 AM h3 k' _ (k0_off1_eq k) (k0_off1_inb k))
      dup0_apply half0_apply _ rfl _ _ (k0_off3_eq k 1 0) (k0_off3_inb k 1 0) y
  · exact store_apply k' 0 1 0 0 v4 W AM _ _ (load_bytes X2 W h2 k' 0 0 _ (k0_off2_eq k 0) (k0_off2_inb k 0)) (load_scales X3 AM h3 k' _ (k0_off1_eq k) (k0_off1_inb k))
      dup1_apply half0_apply _ rfl _ _ (k0_off3_eq k 0 1) (k0_off3_inb k 0 1) y
  · exact store_apply k' 0 0 0 0 v4 W AM _ _ (load_bytes X2 W h2 k' 0 0 _ (k0_off2_eq k 0) (k0_off2_inb k 0)) (load_scales X3 AM h3 k' _ (k0_off1_eq k) (k0_off1_inb k))
      dup0_apply half0_apply _ rfl _ _ (k0_off3_eq k 0 0) (k0_off3_inb k 0 0) y

/-- Every store of the first `n` trips is the weight, restricted to the store's rectangle. -/
theorem trips_pieces (v4 : FVec Ideal S16x128 .bf16) (W : Vec Ideal S4096x256 .i8) (AM : Vec Ideal S64x512 .f32)
    (X2 : BufTy.Contents (Elt Ideal) arg2.view.ty) (X3 : BufTy.Contents (Elt Ideal) arg3.view.ty)
    (h2 : arg2.view.read (Elt Ideal) X2 = W) (h3 : arg3.view.read (Elt Ideal) X3 = AM) (n : Nat) (hn : n ≤ k0_t1_loop.trips) :
    ∀ q ∈ pb_k0_t1 (F := Ideal) 𝒱 c bd i arg1 harg1 arg2 harg2 arg3 harg3 arg4 harg4 arg5 harg5 arg6 harg6 arg7 harg7 arg8 harg8 arg9 harg9 v4 (k0_pay42 k0_pay41) k0_pay43 k0_pay44 (iota .tc S8x128 32 [1] iota_S8x128_d1_w32) k0_pay45 X2 X3 n,
      ∀ y : q.1.shape.Idx, q.2 y = weight v4 W AM (q.1.emb y) := by
  induction n with
  | zero => intro q hq; exact absurd hq (by rw [pb_k0_t1]; exact List.not_mem_nil)
  | succ n ih =>
    intro q hq
    rw [pb_k0_t1_succ (F := Ideal) 𝒱 c bd i arg1 harg1 arg2 harg2 arg3 harg3 arg4 harg4 arg5 harg5 arg6 harg6 arg7 harg7 arg8 harg8 arg9 harg9 v4 (k0_pay42 k0_pay41) k0_pay43 k0_pay44 (iota .tc S8x128 32 [1] iota_S8x128_d1_w32) k0_pay45 X2 X3 ⟨n, hn⟩] at hq
    rcases List.mem_append.mp hq with hq | hq
    · exact trip_pieces 𝒱 c bd i arg1 harg1 arg2 harg2 arg3 harg3 arg4 harg4 arg5 harg5 arg6 harg6 arg7 harg7 arg8 harg8 arg9 harg9 v4 W AM X2 X3 h2 h3 ⟨n, hn⟩ q hq
    · exact ih (Nat.le_of_lt hn) q hq

/-- The scratch array read whole after the loop is the dequantised weight. -/
theorem scratch_read (v4 : FVec Ideal S16x128 .bf16) (W : Vec Ideal S4096x256 .i8) (AM : Vec Ideal S64x512 .f32)
    (X2 : BufTy.Contents (Elt Ideal) arg2.view.ty) (X3 : BufTy.Contents (Elt Ideal) arg3.view.ty)
    (h2 : arg2.view.read (Elt Ideal) X2 = W) (h3 : arg3.view.read (Elt Ideal) X3 = AM)
    (off : Fin 2 → Nat) (hoff : off = fun _ => 0) (inb : ∀ a, off a + S4096x512.size a ≤ S4096x512.size a) :
    arg8.view.readCov (pb_k0_t1 (F := Ideal) 𝒱 c bd i arg1 harg1 arg2 harg2 arg3 harg3 arg4 harg4 arg5 harg5 arg6 harg6 arg7 harg7 arg8 harg8 arg9 harg9 v4 (k0_pay42 k0_pay41) k0_pay43 k0_pay44 (iota .tc S8x128 32 [1] iota_S8x128_d1_w32) k0_pay45 X2 X3
        (Scf.trips k0_t1_loop.lb k0_t1_loop.ub k0_t1_loop.st)) (Rect.unit (s := S4096x512) off S4096x512.size inb).toLoadRect
      = weight v4 W AM := by
  rw [View.readCov_eq_canon']
  funext y
  have hc := View.cover_of_tiledL (pb_k0_t1 (F := Ideal) 𝒱 c bd i arg1 harg1 arg2 harg2 arg3 harg3 arg4 harg4 arg5 harg5 arg6 harg6 arg7 harg7 arg8 harg8 arg9 harg9 v4 (k0_pay42 k0_pay41) k0_pay43 k0_pay44 (iota .tc S8x128 32 [1] iota_S8x128_d1_w32) k0_pay45 X2 X3
        (Scf.trips k0_t1_loop.lb k0_t1_loop.ub k0_t1_loop.st)) S16x128.size (by sl_kernel_rfl) ((Rect.unit (s := S4096x512) off S4096x512.size inb).toLoadRect.idx y)
  rw [View.canon_apply_of_pieces (weight v4 W AM) _ (trips_pieces 𝒱 c bd i arg1 harg1 arg2 harg2 arg3 harg3 arg4 harg4 arg5 harg5 arg6 harg6 arg7 harg7 arg8 harg8 arg9 harg9 v4 W AM X2 X3 h2 h3 _ (Nat.le_refl _)) _ hc]
  refine congrArg (weight v4 W AM) (funext fun a => Fin.ext ?_)
  subst hoff
  show 0 + 1 * (y a).val = (y a).val
  omega

end Trips

end Cert.Proof.Tile
-- ==== Proof.Block.lean ====
/-
  What the kernel's body leaves at one grid point: the block of the result, and (at the first point) the low-rank factor it
  carries to the others.
-/
module

public import proofs.«01_k».proof.Proof.Gen.KernelIdeal.Value
public import proofs.«01_k».proof.Proof.Trip

@[expose] public section

set_option maxRecDepth 16384

noncomputable section

namespace Cert.Proof.Block

open Cert.KernelIdeal Cert.KernelIdeal.Gen Idealize.ShloMosaic Idealize.ShloMosaic.ValueIdx Idealize.ShloMosaic.TcCoe Idealize.ShloMosaic.Tactic
open Cert.Proof.Tile (weight)

/-- The origin of a whole block. -/
theorem zeros : (![0, 0] : Fin 2 → Nat) = fun _ => 0 := by
  funext a; fin_cases a <;> rfl

/-- The block of levels as the body uses it is the block as read. -/
theorem levels (x5 : Vec Ideal S16x128 .bf16) : k0_pay40 x5 = x5 := by
  unfold k0_pay40
  dsimp only
  rw [shapeCast_self]

section Body

variable (c : Dev nD) (i : grid0.Coords)
  (arg1 : Memref sig .tc .vmem S1024x4096 .bf16) (harg1 : arg1.IsWhole) (arg2 : Memref sig .tc .vmem S4096x256 .i8) (harg2 : arg2.IsWhole)
  (arg3 : Memref sig .tc .vmem S64x512 .f32) (harg3 : arg3.IsWhole) (arg4 : Memref sig .tc .vmem S4096x16 .bf16) (harg4 : arg4.IsWhole)
  (arg5 : Memref sig .tc .vmem S16x512 .bf16) (harg5 : arg5.IsWhole) (arg6 : Memref sig .tc .vmem S16x128 .bf16) (harg6 : arg6.IsWhole)
  (arg7 : Memref sig .tc .vmem S1024x512 .bf16) (harg7 : arg7.IsWhole) (arg8 : Memref sig .tc .vmem S4096x512 .bf16) (harg8 : arg8.IsWhole)
  (arg9 : Memref sig .tc .vmem S1024x16 .bf16) (harg9 : arg9.IsWhole)
  (x0 : Vec Ideal S1024x4096 .bf16) (x1 : Vec Ideal S4096x256 .i8) (x2 : Vec Ideal S64x512 .f32) (x3 : Vec Ideal S4096x16 .bf16)
  (x4 : Vec Ideal S16x512 .bf16) (x5 : Vec Ideal S16x128 .bf16) (xs1 : Vec Ideal S1024x16 .bf16)

/-- At a point after the first, the body leaves the product with the dequantised weight plus the low-rank product of what
    the carried scratch holds. -/
theorem out_later (hc0 : ¬cond0_0 i) :
    out0_B_6 (F := Ideal) c i arg1 harg1 arg2 harg2 arg3 harg3 arg4 harg4 arg5 harg5 arg6 harg6 arg7 harg7 arg8 harg8 arg9 harg9 hc0 x0 x1 x2 x3 x4 x5 xs1 = k0_pay5 x0 (weight x5 x1 x2) xs1 x4 := by
  unfold out0_B_6
  rw [View.read_writes_eq_canon _ _ _ (cover0_B_6 (F := Ideal) c i arg1 harg1 arg2 harg2 arg3 harg3 arg4 harg4 arg5 harg5 arg6 harg6 arg7 harg7 arg8 harg8 arg9 harg9 hc0 x0 x1 x2 x3 x4 x5 xs1)]
  unfold kernelRun0_B
  dsimp only
  sl_unfold_words
  simp only [View.readAt_eq_ld, harg1.read_unread, harg5.read_unread, harg6.read_unread, harg9.read_unread]
  rw [View.canon_unit_zero zeros]
  rw [View.ld_unit_zero zeros, View.ld_unit_zero zeros, View.ld_unit_zero zeros, View.ld_unit_zero zeros]
  exact congrArg (fun w => k0_pay5 x0 w xs1 x4) ((Tile.scratch_read Variants.none c none i arg1 harg1 arg2 harg2 arg3 harg3 arg4 harg4 arg5 harg5 arg6 harg6 arg7 harg7 arg8 harg8 arg9 harg9 (k0_pay40 x5) x1 x2 (harg2.unread x1) (harg3.unread x2) (harg2.read_unread x1) (harg3.read_unread x2) _ zeros inb_S4096x512_S4096x512_0_0).trans (by rw [levels]))

/-- At the first point, the body leaves in the carried scratch the low-rank factor of the rows. -/
theorem scratch_first (hc0 : cond0_0 i) :
    sout0_A_1 (F := Ideal) c i arg1 harg1 arg2 harg2 arg3 harg3 arg4 harg4 arg5 harg5 arg6 harg6 arg7 harg7 arg8 harg8 arg9 harg9 hc0 x0 x1 x2 x3 x4 x5 = k0_pay39 x0 x3 := by
  unfold sout0_A_1
  rw [View.read_writes_eq_canon _ _ _ (scover0_A_1 (F := Ideal) c i arg1 harg1 arg2 harg2 arg3 harg3 arg4 harg4 arg5 harg5 arg6 harg6 arg7 harg7 arg8 harg8 arg9 harg9 hc0 x0 x1 x2 x3 x4 x5)]
  unfold kernelRun0_A
  dsimp only
  sl_unfold_words
  simp only [View.readAt_eq_ld, harg1.read_unread, harg4.read_unread]
  rw [View.canon_unit_zero zeros]
  rw [View.ld_unit_zero zeros, View.ld_unit_zero zeros]

/-- At the first point, the body leaves the product with the dequantised weight plus the low-rank product of the factor it
    has just computed. -/
theorem out_first (hc0 : cond0_0 i) :
    out0_A_6 (F := Ideal) c i arg1 harg1 arg2 harg2 arg3 harg3 arg4 harg4 arg5 harg5 arg6 harg6 arg7 harg7 arg8 harg8 arg9 harg9 hc0 x0 x1 x2 x3 x4 x5 = k0_pay5 x0 (weight x5 x1 x2) (k0_pay39 x0 x3) x4 := by
  unfold out0_A_6
  rw [View.read_writes_eq_canon _ _ _ (cover0_A_6 (F := Ideal) c i arg1 harg1 arg2 harg2 arg3 harg3 arg4 harg4 arg5 harg5 arg6 harg6 arg7 harg7 arg8 harg8 arg9 harg9 hc0 x0 x1 x2 x3 x4 x5)]
  unfold kernelRun0_A
  dsimp only
  sl_unfold_words
  simp only [View.readAt_eq_ld, harg1.read_unread, harg4.read_unread, harg5.read_unread, harg6.read_unread]
  rw [View.canon_unit_zero zeros, View.readCov_unit_zero _ zeros]
  rw [View.ld_unit_zero zeros, View.ld_unit_zero zeros, View.ld_unit_zero zeros, View.ld_unit_zero zeros]
  exact congrArg (fun w => k0_pay5 x0 w (k0_pay39 x0 x3) x4) ((Tile.scratch_read Variants.none c none i arg1 harg1 arg2 harg2 arg3 harg3 arg4 harg4 arg5 harg5 arg6 harg6 arg7 harg7 arg8 harg8 arg9 harg9 (k0_pay40 x5) x1 x2 (harg2.unread x1) (harg3.unread x2) (harg2.read_unread x1) (harg3.read_unread x2) _ zeros inb_S4096x512_S4096x512_0_0).trans (by rw [levels]))

end Body

section Points

variable (m : (ℓ : Loc nD τ sig) → Buf (Elt Ideal) ℓ) (c : Dev nD)

/-- The first grid point. -/
abbrev first : Fin cfg0.N := ⟨0, lt_of_lt_of_eq (by decide) N_0.symm⟩

/-- The low-rank factor the first point computes. -/
def factor : Vec Ideal S1024x16 .bf16 := k0_pay39 (iblk m c 0 first) (iblk m c 3 first)

/-- After every point the output block is that point's product with the dequantised weight plus the low-rank product, and
    the carried scratch is the first point's factor. -/
theorem after_point (n : ℕ) (hn : n < cfg0.N) :
    outsAt0 m c n hn
      = (k0_pay5 (iblk m c 0 ⟨n, hn⟩) (weight (iblk m c 5 ⟨n, hn⟩) (iblk m c 1 ⟨n, hn⟩) (iblk m c 2 ⟨n, hn⟩)) (factor m c) (iblk m c 4 ⟨n, hn⟩),
          factor m c) := by
  induction n with
  | zero =>
    rw [Value.outsAt0_zero, Value.stAt0_A m c ⟨0, hn⟩ _ (Nat.zero_mod _)]
    rw [out_first, scratch_first]
    rfl
  | succ n ih =>
    have hN := lt_of_lt_of_eq hn (show cfg0.N = 56 from N_0)
    rw [Value.outsAt0_succ, Value.stAt0_B m c ⟨n + 1, hn⟩ _ (by show ¬(n + 1) % 56 = 0; omega), ih]
    rw [out_later]
    rfl

/-- Where each input window's block lies at a point: the activations, the adapter's left factor and the levels are read
    whole; the bytes, the scales and the adapter's right factor advance one block of columns a point. -/
theorem places : ∀ t : Fin cfg0.N,
    (win0_0.index t (0 : Fin 2) = 0 ∧ win0_0.index t (1 : Fin 2) = 0)
    ∧ (win0_1.index t (0 : Fin 2) = 0 ∧ win0_1.index t (1 : Fin 2) = t.val)
    ∧ (win0_2.index t (0 : Fin 2) = 0 ∧ win0_2.index t (1 : Fin 2) = t.val)
    ∧ (win0_3.index t (0 : Fin 2) = 0 ∧ win0_3.index t (1 : Fin 2) = 0)
    ∧ (win0_4.index t (0 : Fin 2) = 0 ∧ win0_4.index t (1 : Fin 2) = t.val)
    ∧ (win0_5.index t (0 : Fin 2) = 0 ∧ win0_5.index t (1 : Fin 2) = 0) :=
  (by decide +kernel : ∀ t : Fin grid0.N, _)

/-- The number of grid points. -/
theorem points (t : Fin cfg0.N) : t.val < 56 := lt_of_lt_of_eq t.isLt N_0

/-- The bytes' block at a point. -/
theorem bytes_at (t : Fin cfg0.N) (y : S4096x256.Idx) :
    iblk m c 1 t y = m ((c : Thread nD τ).loc main_arg1) (ix2 (⟨(y 0).val, (y 0).isLt⟩ : Fin 4096)
      (⟨256 * t.val + (y 1).val, by have h1 := points t; have h2 : (y 1).val < 256 := (y 1).isLt; omega⟩ : Fin 14336)) := by
  obtain ⟨-, ⟨e0, e1⟩, -⟩ := places t
  show V m c main_arg1 (((cfg0.win 1).blk t).view.emb y) = _
  rw [V_main_arg1]
  refine congrArg (m ((c : Thread nD τ).loc main_arg1)) (funext fun a => Fin.ext ?_)
  match a with
  | ⟨0, _⟩ => show win0_1.index t (0 : Fin 2) * 4096 + 1 * (y 0).val = (y 0).val; omega
  | ⟨1, _⟩ => show win0_1.index t (1 : Fin 2) * 256 + 1 * (y 1).val = 256 * t.val + (y 1).val; omega

/-- The scales' block at a point. -/
theorem scales_at (t : Fin cfg0.N) (y : S64x512.Idx) :
    iblk m c 2 t y = m ((c : Thread nD τ).loc main_arg2) (ix2 (⟨(y 0).val, (y 0).isLt⟩ : Fin 64)
      (⟨512 * t.val + (y 1).val, by have h1 := points t; have h2 : (y 1).val < 512 := (y 1).isLt; omega⟩ : Fin 28672)) := by
  obtain ⟨-, -, ⟨e0, e1⟩, -⟩ := places t
  show V m c main_arg2 (((cfg0.win 2).blk t).view.emb y) = _
  rw [V_main_arg2]
  refine congrArg (m ((c : Thread nD τ).loc main_arg2)) (funext fun a => Fin.ext ?_)
  match a with
  | ⟨0, _⟩ => show win0_2.index t (0 : Fin 2) * 64 + 1 * (y 0).val = (y 0).val; omega
  | ⟨1, _⟩ => show win0_2.index t (1 : Fin 2) * 512 + 1 * (y 1).val = 512 * t.val + (y 1).val; omega

/-- The adapter's left factor is read whole at every point. -/
theorem left_at (t : Fin cfg0.N) (y : S4096x16.Idx) :
    iblk m c 3 t y = m ((c : Thread nD τ).loc main_arg3) (ix2 (⟨(y 0).val, (y 0).isLt⟩ : Fin 4096) (⟨(y 1).val, (y 1).isLt⟩ : Fin 16)) := by
  obtain ⟨-, -, -, ⟨e0, e1⟩, -⟩ := places t
  show V m c main_arg3 (((cfg0.win 3).blk t).view.emb y) = _
  rw [V_main_arg3]
  refine congrArg (m ((c : Thread nD τ).loc main_arg3)) (funext fun a => Fin.ext ?_)
  match a with
  | ⟨0, _⟩ => show win0_3.index t (0 : Fin 2) * 4096 + 1 * (y 0).val = (y 0).val; omega
  | ⟨1, _⟩ => show win0_3.index t (1 : Fin 2) * 16 + 1 * (y 1).val = (y 1).val; omega

/-- The adapter's right factor's block at a point. -/
theorem right_at (t : Fin cfg0.N) (y : S16x512.Idx) :
    iblk m c 4 t y = m ((c : Thread nD τ).loc main_arg4) (ix2 (⟨(y 0).val, (y 0).isLt⟩ : Fin 16)
      (⟨512 * t.val + (y 1).val, by have h1 := points t; have h2 : (y 1).val < 512 := (y 1).isLt; omega⟩ : Fin 28672)) := by
  obtain ⟨-, -, -, -, ⟨e0, e1⟩, -⟩ := places t
  show V m c main_arg4 (((cfg0.win 4).blk t).view.emb y) = _
  rw [V_main_arg4]
  refine congrArg (m ((c : Thread nD τ).loc main_arg4)) (funext fun a => Fin.ext ?_)
  match a with
  | ⟨0, _⟩ => show win0_4.index t (0 : Fin 2) * 16 + 1 * (y 0).val = (y 0).val; omega
  | ⟨1, _⟩ => show win0_4.index t (1 : Fin 2) * 512 + 1 * (y 1).val = 512 * t.val + (y 1).val; omega

/-- The activations' buffer as the region finds it: the argument with its unit axis dropped. -/
theorem V_rows : V m c main_v3 = shapeCast S1024x4096 (m ((c : Thread nD τ).loc main_arg0)) shapeCasts_S1x1024x4096_S1024x4096 := by
  dsimp only [V, hostOps0]
  after_results
  try rfl

/-- The levels' buffer as the region finds it: the sixteen constants, each repeated along a row. -/
theorem V_levels : V m c main_v2
    = broadcastInDim S16x128 ![0, 1] bcast_S16x1_S16x128_0_1 (broadcastInDim S16x1 ![0] bcast_S16_S16x1_0
        (truncf (F := Ideal) .bf16 (fun i => FloatOps.ofBits .f32 (lit0 (S16.rowMajor i))) bitsLt_bf16_f32)) := by
  dsimp only [V, hostOps0]
  after_results
  try rfl

/-- The activations are read whole at every point. -/
theorem rows_at (t : Fin cfg0.N) (y : S1024x4096.Idx) :
    iblk m c 0 t y = m ((c : Thread nD τ).loc main_arg0) (ix3 (0 : Fin 1) (⟨(y 0).val, (y 0).isLt⟩ : Fin 1024) (⟨(y 1).val, (y 1).isLt⟩ : Fin 4096)) := by
  obtain ⟨⟨e0, e1⟩, -⟩ := places t
  show V m c main_v3 (((cfg0.win 0).blk t).view.emb y) = _
  rw [V_rows]
  have h0 : (((cfg0.win 0).blk t).view.emb y 0).val = (y 0).val := by
    show win0_0.index t (0 : Fin 2) * 1024 + 1 * (y 0).val = (y 0).val; omega
  have h1 : (((cfg0.win 0).blk t).view.emb y 1).val = (y 1).val := by
    show win0_0.index t (1 : Fin 2) * 4096 + 1 * (y 1).val = (y 1).val; omega
  refine shapeCast_apply _ _ _ _ ?_
  show (S1x1024x4096.rowMajor _).val = (S1024x4096.rowMajor _).val
  rw [Shape.rowMajor_val_three, Shape.rowMajor_val_two]
  show ((0 * 1024) + (y 0).val) * 4096 + (y 1).val = (((cfg0.win 0).blk t).view.emb y 0).val * 4096 + (((cfg0.win 0).blk t).view.emb y 1).val
  rw [h0, h1]
  omega

/-- The levels are read whole at every point. -/
theorem levels_at (t : Fin cfg0.N) (y : S16x128.Idx) :
    iblk m c 5 t y = FloatOps.ofBits (F := Ideal) .f32 (lit0 ⟨(y 0).val, (y 0).isLt⟩) := by
  obtain ⟨-, -, -, -, -, ⟨e0, e1⟩⟩ := places t
  show V m c main_v2 (((cfg0.win 5).blk t).view.emb y) = _
  rw [V_levels]
  have h0 : (((cfg0.win 5).blk t).view.emb y 0).val = (y 0).val := by
    show win0_5.index t (0 : Fin 2) * 16 + 1 * (y 0).val = (y 0).val; omega
  rw [broadcastInDim_apply _ _ _ _ (ix2 (⟨(y 0).val, (y 0).isLt⟩ : Fin 16) (0 : Fin 1)) (fun a => ?_),
    broadcastInDim_apply _ _ _ _ (ix1 (⟨(y 0).val, (y 0).isLt⟩ : Fin 16)) (fun a => ?_)]
  · show FloatOps.ofBits (F := Ideal) .f32 (lit0 (S16.rowMajor (ix1 (⟨(y 0).val, (y 0).isLt⟩ : Fin 16)))) = _
    refine congrArg (fun k => FloatOps.ofBits (F := Ideal) .f32 (lit0 k)) (Fin.ext ?_)
    rw [Shape.rowMajor_val_one]
  · match a with
    | ⟨0, _⟩ => rfl
  · match a with
    | ⟨0, _⟩ => exact h0.symm
    | ⟨1, _⟩ => rfl

end Points

end Cert.Proof.Block
-- ==== Proof.Formula.lean ====
/-
  One entry of the result, as a formula over the five arguments.

  Two numbers of four bits each are packed in a byte: the low four bits belong to the even column, the high four to the
  odd one. Each names one of sixteen levels; the level times the scale of its block of 64 rows is the dequantised weight.
-/
module

public import proofs.«01_k».proof.Proof.Tile

@[expose] public section

noncomputable section

namespace Cert.Proof.Formula

open Idealize.ShloMosaic Cert.Proof.Tile

/-- The sixteen levels. -/
def level (k : Fin 16) : EReal := FloatOps.ofBits (F := Ideal) .f32 (Cert.KernelIdeal.lit0 k)

/-- The row of activations `i` times column `j` of the dequantised weight, plus twice the low-rank product: activations `x`,
    packed bytes `w`, scales `s`, adapter factors `a` and `b`. -/
def entry (x : Fin 1024 → Fin 4096 → EReal) (w : Fin 4096 → Fin 14336 → BitVec 8) (s : Fin 64 → Fin 28672 → EReal)
    (a : Fin 4096 → Fin 16 → EReal) (b : Fin 16 → Fin 28672 → EReal) (i : Fin 1024) (j : Fin 28672) : EReal :=
  (∑ d : Fin 4096, x i d * (level (code (w d ⟨j.val / 2, by omega⟩) (4 * (j.val % 2))) * s ⟨d.val / 64, by omega⟩ j))
    + FloatOps.ofBits (F := Ideal) .f32 0x40000000#32 * ∑ r : Fin 16, (∑ d : Fin 4096, x i d * a d r) * b r j

end Cert.Proof.Formula
-- ==== Proof.Result.lean ====
/-
  The kernel's result, entry by entry.
-/
module

public import proofs.«01_k».proof.Proof.Block
public import proofs.«01_k».proof.Proof.Formula
public import Idealize.ShloMosaic.Lib.MatmulPlain

@[expose] public section

noncomputable section

namespace Cert.Proof.Result

open Cert.KernelIdeal Cert.KernelIdeal.Gen Idealize.ShloMosaic Idealize.ShloMosaic.ValueIdx Idealize.ShloMosaic.TcCoe
open Cert.Proof.Tile Cert.Proof.Block Cert.Proof.Formula

/-- The product of the activations with a block of the weight. -/
theorem wide (x : FVec Ideal S1024x4096 .bf16) (w : FVec Ideal S4096x512 .bf16) (r : Fin 1024) (q : Fin 512) :
    matmul dot_S1024x4096_S4096x512_S1024x512_1_0_0_1_n_n none x w (constant S1024x512 .f32 0x00000000#32) (ix2 r q)
      = (∑ d : Fin 4096, (show EReal from x (ix2 r d)) * (show EReal from w (ix2 d q)) : EReal) := by
  refine (Ideal.matmul_plain_apply (M := 1024) (K := 4096) (N := 512) none x w (constant S1024x512 .f32 0x00000000#32) r q).trans ?_
  show Ideal.ofBits .f32 0x00000000#32 + _ = _
  rw [Ideal.ofBits_zero_f32, zero_add]

/-- The product of the low-rank factor with a block of the adapter's right factor. -/
theorem narrow (x : FVec Ideal S1024x16 .bf16) (w : FVec Ideal S16x512 .bf16) (r : Fin 1024) (q : Fin 512) :
    matmul dot_S1024x16_S16x512_S1024x512_1_0_0_1_n_n none x w (constant S1024x512 .f32 0x00000000#32) (ix2 r q)
      = (∑ d : Fin 16, (show EReal from x (ix2 r d)) * (show EReal from w (ix2 d q)) : EReal) := by
  refine (Ideal.matmul_plain_apply (M := 1024) (K := 16) (N := 512) none x w (constant S1024x512 .f32 0x00000000#32) r q).trans ?_
  show Ideal.ofBits .f32 0x00000000#32 + _ = _
  rw [Ideal.ofBits_zero_f32, zero_add]

/-- The product of the activations with the adapter's left factor. -/
theorem thin (x : FVec Ideal S1024x4096 .bf16) (w : FVec Ideal S4096x16 .bf16) (r : Fin 1024) (q : Fin 16) :
    matmul dot_S1024x4096_S4096x16_S1024x16_1_0_0_1_n_n none x w (constant S1024x16 .f32 0x00000000#32) (ix2 r q)
      = (∑ d : Fin 4096, (show EReal from x (ix2 r d)) * (show EReal from w (ix2 d q)) : EReal) := by
  refine (Ideal.matmul_plain_apply (M := 1024) (K := 4096) (N := 16) none x w (constant S1024x16 .f32 0x00000000#32) r q).trans ?_
  show Ideal.ofBits .f32 0x00000000#32 + _ = _
  rw [Ideal.ofBits_zero_f32, zero_add]

/-- The stored block at one element: the wide product plus twice the narrow one. -/
theorem stored_at (x : FVec Ideal S1024x4096 .bf16) (w : FVec Ideal S4096x512 .bf16) (h : FVec Ideal S1024x16 .bf16) (b : FVec Ideal S16x512 .bf16)
    (r : Fin 1024) (q : Fin 512) :
    k0_pay5 (F := Ideal) x w h b (ix2 r q)
      = ((∑ d : Fin 4096, (show EReal from x (ix2 r d)) * (show EReal from w (ix2 d q)))
          + FloatOps.ofBits (F := Ideal) .f32 0x40000000#32 * ∑ k : Fin 16, (show EReal from h (ix2 r k)) * (show EReal from b (ix2 k q)) : EReal) := by
  unfold k0_pay5
  dsimp only
  rw [shapeCast_self, ← wide, ← narrow]
  rfl

/-- The low-rank factor at one element. -/
theorem factor_at (x : FVec Ideal S1024x4096 .bf16) (a : FVec Ideal S4096x16 .bf16) (r : Fin 1024) (q : Fin 16) :
    k0_pay39 (F := Ideal) x a (ix2 r q) = (∑ d : Fin 4096, (show EReal from x (ix2 r d)) * (show EReal from a (ix2 d q)) : EReal) := by
  unfold k0_pay39
  dsimp only
  rw [shapeCast_self, shapeCast_self, ← thin]
  rfl

variable (m : (ℓ : Loc nD τ sig) → Buf (Elt Ideal) ℓ) (c : Dev nD)

/-- What a point leaves at one element of its block of the result. -/
theorem block_at (n : ℕ) (hn : n < cfg0.N) (r : Fin 1024) (q : Fin 512) (j : Fin 28672) (hj : j.val = 512 * n + q.val) :
    (outsAt0 m c n hn).1 (ix2 r q)
      = entry (fun i d => m ((c : Thread nD τ).loc main_arg0) (ix3 (0 : Fin 1) i d)) (fun d n => m ((c : Thread nD τ).loc main_arg1) (ix2 d n))
          (fun g j => m ((c : Thread nD τ).loc main_arg2) (ix2 g j)) (fun d q => m ((c : Thread nD τ).loc main_arg3) (ix2 d q))
          (fun q j => m ((c : Thread nD τ).loc main_arg4) (ix2 q j)) r j := by
  have hN := lt_of_lt_of_eq hn (show cfg0.N = 56 from N_0)
  obtain ⟨j, hlt⟩ := j
  obtain rfl : j = 512 * n + q.val := hj
  rw [after_point]
  refine (stored_at _ _ _ _ r q).trans ?_
  unfold entry
  refine congrArg₂ (fun u v : EReal => u + FloatOps.ofBits (F := Ideal) .f32 0x40000000#32 * v)
    (Finset.sum_congr rfl fun d _ => ?_) (Finset.sum_congr rfl fun k _ => ?_)
  · refine congrArg₂ (fun u v : EReal => u * v) (rows_at m c ⟨n, hn⟩ (ix2 r d)) ?_
    unfold weight
    refine congrArg₂ (fun u v : EReal => u * v) ?_ (scales_at m c ⟨n, hn⟩ _)
    refine (levels_at m c ⟨n, hn⟩ _).trans ?_
    rw [bytes_at]
    refine congrArg₂ (fun (b : BitVec 8) (s : ℕ) => level (code b s)) (congrArg (m ((c : Thread nD τ).loc main_arg1)) ?_) ?_
    · refine congrArg (fun z : Fin 14336 => ix2 d z) (Fin.ext ?_)
      show 256 * n + q.val / 2 = (512 * n + q.val) / 2
      omega
    · show 4 * (q.val % 2) = 4 * ((512 * n + q.val) % 2)
      omega
  · refine congrArg₂ (fun u v : EReal => u * v) ?_ (right_at m c ⟨n, hn⟩ (ix2 k q))
    unfold factor
    refine (factor_at _ _ r k).trans (Finset.sum_congr rfl fun d _ => ?_)
    exact congrArg₂ (fun u v : EReal => u * v) (rows_at m c first (ix2 r d)) (left_at m c first (ix2 d k))

/-- The kernel's result. -/
theorem result (i : S1024x28672.Idx) :
    Value.G6 m c i
      = entry (fun i d => m ((c : Thread nD τ).loc main_arg0) (ix3 (0 : Fin 1) i d)) (fun d n => m ((c : Thread nD τ).loc main_arg1) (ix2 d n))
          (fun g j => m ((c : Thread nD τ).loc main_arg2) (ix2 g j)) (fun d q => m ((c : Thread nD τ).loc main_arg3) (ix2 d q))
          (fun q j => m ((c : Thread nD τ).loc main_arg4) (ix2 q j)) (⟨(i 0).val, (i 0).isLt⟩ : Fin 1024) (⟨(i 1).val, (i 1).isLt⟩ : Fin 28672) := by
  have h0 : (i 0).val < 1024 := (i 0).isLt
  have h1 : (i 1).val < 28672 := (i 1).isLt
  have hp : Value.pt6Of i = (i 1).val / 512 := by
    show 56 * ((i 0).val / 1024 - 0) + 1 * ((i 1).val / 512 - 0) = (i 1).val / 512
    omega
  have hN : Value.pt6Of i < cfg0.N := by rw [hp, show cfg0.N = 56 from N_0]; omega
  unfold Value.G6
  rw [dif_pos hN, ← Value.outsAt0_sweep m c (Value.pt6Of i) hN]
  refine Eq.trans (congrArg _ (funext fun a => ?_)) (block_at m c (Value.pt6Of i) hN (⟨(i 0).val, h0⟩ : Fin 1024) (⟨(i 1).val % 512, Nat.mod_lt _ (by decide)⟩ : Fin 512)
    (⟨(i 1).val, h1⟩ : Fin 28672) (by show (i 1).val = 512 * Value.pt6Of i + (i 1).val % 512; rw [hp]; omega))
  match a with
  | ⟨0, _⟩ => exact Fin.ext (by show (i 0).val % 1024 = (i 0).val; omega)
  | ⟨1, _⟩ => rfl

end Cert.Proof.Result
-- ==== Proof.Select.lean ====
/-
  Choosing one of sixteen values by the four bits of a word, a bit at a time.
-/
module

public import proofs.«01_k».proof.Proof.Tile

@[expose] public section

noncomputable section

namespace Cert.Proof.Select

open Idealize.ShloMosaic Cert.Proof.Tile

/-- A choice by whether the bits of `c` under the mask `p` are other than zero. -/
abbrev pick {α : Type} (c p : BitVec 32) (x y : α) : α := Scalar.select (IntOp.cmpi .ne (IntOp.andi c p) 0#32) x y

/-- Fifteen choices by the four low bits of a word below 16 take the value the word numbers. -/
theorem pick_sixteen {α : Type} (t : Fin 16 → α) (k : Fin 16) :
    pick (BitVec.ofNat 32 k.val) 8#32
      (pick (BitVec.ofNat 32 k.val) 4#32
        (pick (BitVec.ofNat 32 k.val) 2#32 (pick (BitVec.ofNat 32 k.val) 1#32 (t 15) (t 14)) (pick (BitVec.ofNat 32 k.val) 1#32 (t 13) (t 12)))
        (pick (BitVec.ofNat 32 k.val) 2#32 (pick (BitVec.ofNat 32 k.val) 1#32 (t 11) (t 10)) (pick (BitVec.ofNat 32 k.val) 1#32 (t 9) (t 8))))
      (pick (BitVec.ofNat 32 k.val) 4#32
        (pick (BitVec.ofNat 32 k.val) 2#32 (pick (BitVec.ofNat 32 k.val) 1#32 (t 7) (t 6)) (pick (BitVec.ofNat 32 k.val) 1#32 (t 5) (t 4)))
        (pick (BitVec.ofNat 32 k.val) 2#32 (pick (BitVec.ofNat 32 k.val) 1#32 (t 3) (t 2)) (pick (BitVec.ofNat 32 k.val) 1#32 (t 1) (t 0))))
      = t k := by
  fin_cases k <;> rfl

/-- The low four bits of a byte widened to a word. -/
theorem low : ∀ b : BitVec 8, IntOp.andi (b.setWidth 32) 15#32 = BitVec.ofNat 32 (code b 0).val := by decide +kernel

/-- The high four bits of a byte widened to a word. -/
theorem high : ∀ b : BitVec 8, IntOp.shrsi .host (b.setWidth 32) 4#32 = BitVec.ofNat 32 (code b 4).val := by decide +kernel

end Cert.Proof.Select
-- ==== Proof.Reference.lean ====
/-
  The reference's result, entry by entry.

  The reference computes the even columns from the low four bits of the bytes and the odd columns from the high four, then
  interleaves the two.
-/
module

public import proofs.«01_k».proof.Proof.Gen.ReferenceIdeal.Read
public import proofs.«01_k».proof.Proof.Formula
public import proofs.«01_k».proof.Proof.Select

@[expose] public section

noncomputable section

namespace Cert.Proof.Reference

open Cert.ReferenceIdeal Cert.ReferenceIdeal.Gen Cert.ReferenceIdeal.Read Idealize.ShloMosaic Idealize.ShloMosaic.ValueIdx
open Cert.Proof.Tile Cert.Proof.Formula Cert.Proof.Select

/-- The level the low four bits of a byte name, chosen a bit at a time. -/
theorem even_level (x1 : (⟨S4096x14336, .i8⟩ : BufTy).Contents (Elt Ideal)) (i : S4096x14336.Idx) :
    val_main_v68 (F := Ideal) x1 i = level (code (x1 i) 0) := by
  simp only [
    val_main_v0_apply, val_main_c_apply, val_main_v1_apply, val_main_v2_apply, val_main_cst_apply, val_main_v6_apply,
    val_main_v7_apply, val_main_cst_1_apply, val_main_v8_apply, val_main_v9_apply, val_main_cst_2_apply,
    val_main_v10_apply, val_main_v11_apply, val_main_cst_3_apply, val_main_v12_apply, val_main_v13_apply,
    val_main_cst_4_apply, val_main_v14_apply, val_main_v15_apply, val_main_cst_5_apply, val_main_v16_apply,
    val_main_v17_apply, val_main_cst_6_apply, val_main_v18_apply, val_main_v19_apply, val_main_cst_7_apply,
    val_main_v20_apply, val_main_v21_apply, val_main_cst_8_apply, val_main_v22_apply, val_main_v23_apply,
    val_main_cst_9_apply, val_main_v24_apply, val_main_v25_apply, val_main_cst_10_apply, val_main_v26_apply,
    val_main_v27_apply, val_main_cst_11_apply, val_main_v28_apply, val_main_v29_apply, val_main_cst_12_apply,
    val_main_v30_apply, val_main_v31_apply, val_main_cst_13_apply, val_main_v32_apply, val_main_v33_apply,
    val_main_cst_14_apply, val_main_v34_apply, val_main_v35_apply, val_main_cst_15_apply, val_main_v36_apply,
    val_main_v37_apply, val_main_c_16_apply, val_main_v38_apply, val_main_v39_apply, val_main_c_17_apply,
    val_main_v40_apply, val_main_v41_apply, val_main_call0_v0_apply, val_main_call0_v1_apply, val_main_v42_apply,
    val_main_call1_v0_apply, val_main_call1_v1_apply, val_main_v43_apply, val_main_call2_v0_apply,
    val_main_call2_v1_apply, val_main_v44_apply, val_main_call3_v0_apply, val_main_call3_v1_apply, val_main_v45_apply,
    val_main_call4_v0_apply, val_main_call4_v1_apply, val_main_v46_apply, val_main_call5_v0_apply,
    val_main_call5_v1_apply, val_main_v47_apply, val_main_call6_v0_apply, val_main_call6_v1_apply, val_main_v48_apply,
    val_main_call7_v0_apply, val_main_call7_v1_apply, val_main_v49_apply, val_main_c_18_apply, val_main_v50_apply,
    val_main_v51_apply, val_main_c_19_apply, val_main_v52_apply, val_main_v53_apply, val_main_v54_apply,
    val_main_v55_apply, val_main_v56_apply, val_main_v57_apply, val_main_c_20_apply, val_main_v58_apply,
    val_main_v59_apply, val_main_c_21_apply, val_main_v60_apply, val_main_v61_apply, val_main_v62_apply,
    val_main_v63_apply, val_main_c_22_apply, val_main_v64_apply, val_main_v65_apply, val_main_c_23_apply,
    val_main_v66_apply, val_main_v67_apply, val_main_v68_apply]
  rw [low]
  exact pick_sixteen level (code (x1 i) 0)

/-- The even columns of the dequantised weight. -/
theorem even_weight (x1 : (⟨S4096x14336, .i8⟩ : BufTy).Contents (Elt Ideal)) (x2 : (⟨S64x28672, .f32⟩ : BufTy).Contents (Elt Ideal))
    (d : Fin 4096) (n : Fin 14336) :
    val_main_v74 (F := Ideal) x1 x2 (ix2 d n)
      = (level (code (x1 (ix2 d n)) 0) * (show EReal from x2 (ix2 (⟨d.val / 64, by omega⟩ : Fin 64) (⟨2 * n.val, by omega⟩ : Fin 28672))) : EReal) := by
  rw [val_main_v74_apply, val_main_v73_apply, val_main_v69_apply, even_level, val_main_v72_apply, val_main_v71_apply, val_main_v70_apply]
  have e : idx_main_v69 (idx_main_v74 (ix2 d n)) = ix2 d n := by
    funext a
    match a with
    | ⟨0, _⟩ => exact Fin.ext (by
        show (((d.val * 14336 + n.val) / 917504 * 64 + (d.val * 14336 + n.val) / 14336 % 64) * 14336 + (d.val * 14336 + n.val) % 14336) / 14336 = d.val
        omega)
    | ⟨1, _⟩ => exact Fin.ext (by
        show (((d.val * 14336 + n.val) / 917504 * 64 + (d.val * 14336 + n.val) / 14336 % 64) * 14336 + (d.val * 14336 + n.val) % 14336) % 14336 = n.val
        omega)
  rw [e]
  show (_ * (show EReal from val_main_v5 (F := Ideal) x2 _) : EReal) = _
  refine congrArg (fun z : EReal => level (code (x1 (ix2 d n)) 0) * z) ?_
  unfold val_main_v5 Host.slice
  refine congrArg x2 (funext fun a => Fin.ext ?_)
  match a with
  | ⟨0, _⟩ => show 0 + 1 * ((d.val * 14336 + n.val) / 917504) = d.val / 64; omega
  | ⟨1, _⟩ => show 0 + 2 * ((d.val * 14336 + n.val) % 14336) = 2 * n.val; omega

/-- The level the high four bits of a byte name, chosen a bit at a time. -/
theorem odd_level (x1 : (⟨S4096x14336, .i8⟩ : BufTy).Contents (Elt Ideal)) (i : S4096x14336.Idx) :
    val_main_v138 (F := Ideal) x1 i = level (code (x1 i) 4) := by
  simp only [
    val_main_v0_apply, val_main_v3_apply, val_main_v4_apply, val_main_c_0_apply, val_main_cst_24_apply,
    val_main_v76_apply, val_main_v77_apply, val_main_cst_25_apply, val_main_v78_apply, val_main_v79_apply,
    val_main_cst_26_apply, val_main_v80_apply, val_main_v81_apply, val_main_cst_27_apply, val_main_v82_apply,
    val_main_v83_apply, val_main_cst_28_apply, val_main_v84_apply, val_main_v85_apply, val_main_cst_29_apply,
    val_main_v86_apply, val_main_v87_apply, val_main_cst_30_apply, val_main_v88_apply, val_main_v89_apply,
    val_main_cst_31_apply, val_main_v90_apply, val_main_v91_apply, val_main_cst_32_apply, val_main_v92_apply,
    val_main_v93_apply, val_main_cst_33_apply, val_main_v94_apply, val_main_v95_apply, val_main_cst_34_apply,
    val_main_v96_apply, val_main_v97_apply, val_main_cst_35_apply, val_main_v98_apply, val_main_v99_apply,
    val_main_cst_36_apply, val_main_v100_apply, val_main_v101_apply, val_main_cst_37_apply, val_main_v102_apply,
    val_main_v103_apply, val_main_cst_38_apply, val_main_v104_apply, val_main_v105_apply, val_main_cst_39_apply,
    val_main_v106_apply, val_main_v107_apply, val_main_c_40_apply, val_main_v108_apply, val_main_v109_apply,
    val_main_c_41_apply, val_main_v110_apply, val_main_v111_apply, val_main_call15_v0_apply, val_main_call15_v1_apply,
    val_main_v112_apply, val_main_call16_v0_apply, val_main_call16_v1_apply, val_main_v113_apply,
    val_main_call17_v0_apply, val_main_call17_v1_apply, val_main_v114_apply, val_main_call18_v0_apply,
    val_main_call18_v1_apply, val_main_v115_apply, val_main_call19_v0_apply, val_main_call19_v1_apply,
    val_main_v116_apply, val_main_call20_v0_apply, val_main_call20_v1_apply, val_main_v117_apply,
    val_main_call21_v0_apply, val_main_call21_v1_apply, val_main_v118_apply, val_main_call22_v0_apply,
    val_main_call22_v1_apply, val_main_v119_apply, val_main_c_42_apply, val_main_v120_apply, val_main_v121_apply,
    val_main_c_43_apply, val_main_v122_apply, val_main_v123_apply, val_main_v124_apply, val_main_v125_apply,
    val_main_v126_apply, val_main_v127_apply, val_main_c_44_apply, val_main_v128_apply, val_main_v129_apply,
    val_main_c_45_apply, val_main_v130_apply, val_main_v131_apply, val_main_v132_apply, val_main_v133_apply,
    val_main_c_46_apply, val_main_v134_apply, val_main_v135_apply, val_main_c_47_apply, val_main_v136_apply,
    val_main_v137_apply, val_main_v138_apply]
  rw [high]
  exact pick_sixteen level (code (x1 i) 4)

/-- The odd columns of the dequantised weight. -/
theorem odd_weight (x1 : (⟨S4096x14336, .i8⟩ : BufTy).Contents (Elt Ideal)) (x2 : (⟨S64x28672, .f32⟩ : BufTy).Contents (Elt Ideal))
    (d : Fin 4096) (n : Fin 14336) :
    val_main_v144 (F := Ideal) x1 x2 (ix2 d n)
      = (level (code (x1 (ix2 d n)) 4) * (show EReal from x2 (ix2 (⟨d.val / 64, by omega⟩ : Fin 64) (⟨2 * n.val + 1, by omega⟩ : Fin 28672))) : EReal) := by
  rw [val_main_v144_apply, val_main_v143_apply, val_main_v139_apply, odd_level, val_main_v142_apply, val_main_v141_apply, val_main_v140_apply]
  have e : idx_main_v139 (idx_main_v144 (ix2 d n)) = ix2 d n := by
    funext a
    match a with
    | ⟨0, _⟩ => exact Fin.ext (by
        show (((d.val * 14336 + n.val) / 917504 * 64 + (d.val * 14336 + n.val) / 14336 % 64) * 14336 + (d.val * 14336 + n.val) % 14336) / 14336 = d.val
        omega)
    | ⟨1, _⟩ => exact Fin.ext (by
        show (((d.val * 14336 + n.val) / 917504 * 64 + (d.val * 14336 + n.val) / 14336 % 64) * 14336 + (d.val * 14336 + n.val) % 14336) % 14336 = n.val
        omega)
  rw [e]
  show (_ * (show EReal from val_main_v75 (F := Ideal) x2 _) : EReal) = _
  refine congrArg (fun z : EReal => level (code (x1 (ix2 d n)) 4) * z) ?_
  unfold val_main_v75 Host.slice
  refine congrArg x2 (funext fun a => Fin.ext ?_)
  match a with
  | ⟨0, _⟩ => show 0 + 1 * ((d.val * 14336 + n.val) / 917504) = d.val / 64; omega
  | ⟨1, _⟩ => show 1 + 2 * ((d.val * 14336 + n.val) % 14336) = 2 * n.val + 1; omega

/-- The even columns of the result. -/
theorem even_entry (x0 : (⟨S1x1024x4096, .bf16⟩ : BufTy).Contents (Elt Ideal)) (x1 : (⟨S4096x14336, .i8⟩ : BufTy).Contents (Elt Ideal))
    (x2 : (⟨S64x28672, .f32⟩ : BufTy).Contents (Elt Ideal)) (x3 : (⟨S4096x16, .bf16⟩ : BufTy).Contents (Elt Ideal))
    (x4 : (⟨S16x28672, .bf16⟩ : BufTy).Contents (Elt Ideal)) (r : Fin 1024) (n : Fin 14336) (j : Fin 28672) (hj : j.val = 2 * n.val) :
    val_main_v156 (F := Ideal) x0 x1 x2 x3 x4 (ix3 (0 : Fin 1) r n)
      = entry (fun i d => x0 (ix3 (0 : Fin 1) i d)) (fun d n => x1 (ix2 d n)) (fun g j => x2 (ix2 g j)) (fun d q => x3 (ix2 d q)) (fun q j => x4 (ix2 q j)) r j := by
  obtain ⟨j, hlt⟩ := j
  obtain rfl : j = 2 * n.val := hj
  rw [val_main_v156_apply, val_main_v155_apply, val_main_v151_apply, val_main_v154_apply, val_main_v153_apply, val_main_cst_48_apply, val_main_v148_apply]
  unfold entry
  show (_ + _ * _ : EReal) = _
  refine congrArg₂ (fun u v : EReal => u + FloatOps.ofBits (F := Ideal) .f32 0x40000000#32 * v)
    (Finset.sum_congr rfl fun d _ => ?_) (Finset.sum_congr rfl fun q _ => ?_)
  · have e1 : ridx_main_v151 (ix3 (0 : Fin 1) r n) d = ix2 d n := by
      funext a
      match a with
      | ⟨0, _⟩ => rfl
      | ⟨1, _⟩ => rfl
    rw [e1, even_weight]
    have e2 : (⟨(2 * n.val) / 2, by omega⟩ : Fin 14336) = n := Fin.ext (by show (2 * n.val) / 2 = n.val; omega)
    have e3 : 4 * ((2 * n.val) % 2) = 0 := by omega
    show (_ * (level (code _ _) * _) : EReal) = _ * (level (code (x1 (ix2 d (⟨(2 * n.val) / 2, _⟩ : Fin 14336))) (4 * ((2 * n.val) % 2))) * _)
    rw [e2, e3]
    refine congrArg (fun z : EReal => z * _) (congrArg x0 (funext fun a => ?_))
    match a with
    | ⟨0, _⟩ => rfl
    | ⟨1, _⟩ => rfl
    | ⟨2, _⟩ => rfl
  · refine congrArg₂ (fun u v : EReal => u * v) ?_ ?_
    · rw [val_main_v146_apply, val_main_v145_apply]
      refine Finset.sum_congr rfl fun d _ => congrArg₂ (fun u v : EReal => u * v) (congrArg x0 (funext fun a => ?_)) (congrArg x3 (funext fun a => ?_))
      · match a with
        | ⟨0, _⟩ => rfl
        | ⟨1, _⟩ => rfl
        | ⟨2, _⟩ => rfl
      · match a with
        | ⟨0, _⟩ => rfl
        | ⟨1, _⟩ => rfl
    · unfold val_main_v147 Host.slice
      refine congrArg x4 (funext fun a => Fin.ext ?_)
      match a with
      | ⟨0, _⟩ => show 0 + 1 * q.val = q.val; omega
      | ⟨1, _⟩ => show 0 + 2 * n.val = 2 * n.val; omega

/-- The odd columns of the result. -/
theorem odd_entry (x0 : (⟨S1x1024x4096, .bf16⟩ : BufTy).Contents (Elt Ideal)) (x1 : (⟨S4096x14336, .i8⟩ : BufTy).Contents (Elt Ideal))
    (x2 : (⟨S64x28672, .f32⟩ : BufTy).Contents (Elt Ideal)) (x3 : (⟨S4096x16, .bf16⟩ : BufTy).Contents (Elt Ideal))
    (x4 : (⟨S16x28672, .bf16⟩ : BufTy).Contents (Elt Ideal)) (r : Fin 1024) (n : Fin 14336) (j : Fin 28672) (hj : j.val = 2 * n.val + 1) :
    val_main_v160 (F := Ideal) x0 x1 x2 x3 x4 (ix3 (0 : Fin 1) r n)
      = entry (fun i d => x0 (ix3 (0 : Fin 1) i d)) (fun d n => x1 (ix2 d n)) (fun g j => x2 (ix2 g j)) (fun d q => x3 (ix2 d q)) (fun q j => x4 (ix2 q j)) r j := by
  obtain ⟨j, hlt⟩ := j
  obtain rfl : j = 2 * n.val + 1 := hj
  rw [val_main_v160_apply, val_main_v159_apply, val_main_v152_apply, val_main_v158_apply, val_main_v157_apply, val_main_cst_49_apply, val_main_v150_apply]
  unfold entry
  show (_ + _ * _ : EReal) = _
  refine congrArg₂ (fun u v : EReal => u + FloatOps.ofBits (F := Ideal) .f32 0x40000000#32 * v)
    (Finset.sum_congr rfl fun d _ => ?_) (Finset.sum_congr rfl fun q _ => ?_)
  · have e1 : ridx_main_v152 (ix3 (0 : Fin 1) r n) d = ix2 d n := by
      funext a
      match a with
      | ⟨0, _⟩ => rfl
      | ⟨1, _⟩ => rfl
    rw [e1, odd_weight]
    have e2 : (⟨(2 * n.val + 1) / 2, by omega⟩ : Fin 14336) = n := Fin.ext (by show (2 * n.val + 1) / 2 = n.val; omega)
    have e3 : 4 * ((2 * n.val + 1) % 2) = 4 := by omega
    show (_ * (level (code _ _) * _) : EReal) = _ * (level (code (x1 (ix2 d (⟨(2 * n.val + 1) / 2, _⟩ : Fin 14336))) (4 * ((2 * n.val + 1) % 2))) * _)
    rw [e2, e3]
    refine congrArg (fun z : EReal => z * _) (congrArg x0 (funext fun a => ?_))
    match a with
    | ⟨0, _⟩ => rfl
    | ⟨1, _⟩ => rfl
    | ⟨2, _⟩ => rfl
  · refine congrArg₂ (fun u v : EReal => u * v) ?_ ?_
    · rw [val_main_v146_apply, val_main_v145_apply]
      refine Finset.sum_congr rfl fun d _ => congrArg₂ (fun u v : EReal => u * v) (congrArg x0 (funext fun a => ?_)) (congrArg x3 (funext fun a => ?_))
      · match a with
        | ⟨0, _⟩ => rfl
        | ⟨1, _⟩ => rfl
        | ⟨2, _⟩ => rfl
      · match a with
        | ⟨0, _⟩ => rfl
        | ⟨1, _⟩ => rfl
    · unfold val_main_v149 Host.slice
      refine congrArg x4 (funext fun a => Fin.ext ?_)
      match a with
      | ⟨0, _⟩ => show 0 + 1 * q.val = q.val; omega
      | ⟨1, _⟩ => show 1 + 2 * n.val = 2 * n.val + 1; omega

/-- The reference's result. -/
theorem result (x0 : (⟨S1x1024x4096, .bf16⟩ : BufTy).Contents (Elt Ideal)) (x1 : (⟨S4096x14336, .i8⟩ : BufTy).Contents (Elt Ideal))
    (x2 : (⟨S64x28672, .f32⟩ : BufTy).Contents (Elt Ideal)) (x3 : (⟨S4096x16, .bf16⟩ : BufTy).Contents (Elt Ideal))
    (x4 : (⟨S16x28672, .bf16⟩ : BufTy).Contents (Elt Ideal)) (i : S1024x28672.Idx) :
    val_main_v164 (F := Ideal) x0 x1 x2 x3 x4 i
      = entry (fun i d => x0 (ix3 (0 : Fin 1) i d)) (fun d n => x1 (ix2 d n)) (fun g j => x2 (ix2 g j)) (fun d q => x3 (ix2 d q)) (fun q j => x4 (ix2 q j))
          (⟨(i 0).val, (i 0).isLt⟩ : Fin 1024) (⟨(i 1).val, (i 1).isLt⟩ : Fin 28672) := by
  have h0 : (i 0).val < 1024 := (i 0).isLt
  have h1 : (i 1).val < 28672 := (i 1).isLt
  rw [val_main_v164_apply]
  unfold val_main_v163
  rcases Nat.mod_two_eq_zero_or_one (i 1).val with h | h
  · rw [concatenate_pair_apply_left (s₁ := S1x1024x14336x1) (s₂ := S1x1024x14336x1) (3 : Fin 4) _ _ _ (idx_main_v164 i) rfl
      (ix4 (0 : Fin 1) (⟨(i 0).val, h0⟩ : Fin 1024) (⟨(i 1).val / 2, by omega⟩ : Fin 14336) (0 : Fin 1)) (fun b => ?_), val_main_v161_apply]
    · refine Eq.trans (congrArg _ (funext fun a => ?_)) (even_entry x0 x1 x2 x3 x4 ⟨(i 0).val, h0⟩ ⟨(i 1).val / 2, by omega⟩ ⟨(i 1).val, h1⟩ (by show (i 1).val = 2 * ((i 1).val / 2); omega))
      match a with
      | ⟨0, _⟩ => rfl
      | ⟨1, _⟩ => rfl
      | ⟨2, _⟩ => rfl
    · match b with
      | ⟨0, _⟩ => rfl
      | ⟨1, _⟩ => show (i 0).val = ((i 0).val * 28672 + (i 1).val) / 28672 % 1024; omega
      | ⟨2, _⟩ => show (i 1).val / 2 = ((i 0).val * 28672 + (i 1).val) / 2 % 14336; omega
      | ⟨3, _⟩ => show 0 = ((i 0).val * 28672 + (i 1).val) % 2; omega
  · rw [concatenate_pair_apply_right (s₁ := S1x1024x14336x1) (s₂ := S1x1024x14336x1) (3 : Fin 4) _ _ _ (idx_main_v164 i) rfl rfl
      (ix4 (0 : Fin 1) (⟨(i 0).val, h0⟩ : Fin 1024) (⟨(i 1).val / 2, by omega⟩ : Fin 14336) (0 : Fin 1)) (fun b hb => ?_) ?_, val_main_v162_apply]
    · refine Eq.trans (congrArg _ (funext fun a => ?_)) (odd_entry x0 x1 x2 x3 x4 ⟨(i 0).val, h0⟩ ⟨(i 1).val / 2, by omega⟩ ⟨(i 1).val, h1⟩ (by show (i 1).val = 2 * ((i 1).val / 2) + 1; omega))
      match a with
      | ⟨0, _⟩ => rfl
      | ⟨1, _⟩ => rfl
      | ⟨2, _⟩ => rfl
    · show 0 + 1 = ((i 0).val * 28672 + (i 1).val) % 2; omega
    · match b with
      | ⟨0, _⟩ => rfl
      | ⟨1, _⟩ => show (i 0).val = ((i 0).val * 28672 + (i 1).val) / 28672 % 1024; omega
      | ⟨2, _⟩ => show (i 1).val / 2 = ((i 0).val * 28672 + (i 1).val) / 2 % 14336; omega
      | ⟨3, _⟩ => exact absurd rfl hb

end Cert.Proof.Reference
-- ==== Proof.Algebraic.lean ====
/-
  The kernel over the extended reals computes what the reference computes.
-/
module

public import proofs.«01_k».proof.Defs
public import proofs.«01_k».proof.Proof.Result
public import proofs.«01_k».proof.Proof.Reference

@[expose] public section

noncomputable section

namespace Cert.Proof

open Idealize.ShloMosaic Idealize.ShloMosaic.ValueIdx Idealize.SL.Sem

/-- From memories that agree on the five arguments, both programs run to their ends with the arguments unchanged and the
    same result, entry by entry the formula `Formula.entry`. -/
theorem algebraic : Cert.algebraic_KernelIdeal_ReferenceIdeal := by
  intro m g m' g' _ hm
  refine ⟨Cert.KernelIdeal.Value.G6 m, Cert.KernelIdeal.Value.run m g,
    (θ_run Cert.ReferenceIdeal.defs _ _).mono (fun r h c => ⟨?_, (h c).2⟩) (Cert.ReferenceIdeal.Value.run (F := Ideal) m' g')⟩
  obtain ⟨h0, h1, h2, h3, h4⟩ := hm c
  refine ((h c).1.trans (Cert.ReferenceIdeal.Read.val_main_v164_eq _)).trans ?_
  funext i
  refine (Reference.result _ _ _ _ _ i).trans (Eq.trans ?_ (Result.result m c i).symm)
  exact congrFun (congrFun (congr (congr (congr (congr (congrArg Formula.entry
    (funext fun i => funext fun d => congrFun h0 (ix3 (0 : Fin 1) i d)))
    (funext fun d => funext fun n => congrFun h1 (ix2 d n)))
    (funext fun g => funext fun j => congrFun h2 (ix2 g j)))
    (funext fun d => funext fun q => congrFun h3 (ix2 d q)))
    (funext fun q => funext fun j => congrFun h4 (ix2 q j))) _) _

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Frames
public import proofs.«01_k».proof.Proof.Algebraic
public import Idealize.ShloMosaic.Adequacy
public import Idealize.ShloMosaic.Init

@[expose] public section

noncomputable section

namespace Cert.Proof

open Idealize.ShloMosaic Idealize.SL.Sem Cert.Kernel

/-- The certificate's claims, all of them. -/
theorem claim : Cert.Claim := ⟨Cert.Kernel.Gen.facts, Cert.KernelIdeal.Gen.facts, Cert.ReferenceIdeal.Gen.facts,
  frame_kernel, frame_kernelIdeal, frame_referenceIdeal, trivial, algebraic⟩

end Cert.Proof

end
